-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![512, 16384]⟩ 1 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S512x16 : Shape := ⟨2, ![512, 16]⟩
abbrev S4x512x16 : Shape := ⟨3, ![4, 512, 16]⟩
abbrev S3 : Shape := ⟨1, ![3]⟩
abbrev S_ : Shape := ⟨0, ![]⟩
abbrev S512x128 : Shape := ⟨2, ![512, 128]⟩
abbrev S512x64 : Shape := ⟨2, ![512, 64]⟩
abbrev S512x96 : Shape := ⟨2, ![512, 96]⟩
abbrev S512x32 : Shape := ⟨2, ![512, 32]⟩
abbrev S512x112 : Shape := ⟨2, ![512, 112]⟩
abbrev S512x256 : Shape := ⟨2, ![512, 256]⟩
abbrev S512 : Shape := ⟨1, ![512]⟩
abbrev S512x1 : Shape := ⟨2, ![512, 1]⟩
abbrev S1x512x16 : Shape := ⟨3, ![1, 512, 16]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S512x4096, .f32⟩
  | .hbm, ⟨1, _⟩ => ⟨S512x16, .f32⟩
  | .local _ .vmem, ⟨0, _⟩ => ⟨S512x4096, .f32⟩
  | .local _ .vmem, ⟨1, _⟩ => ⟨S512x16, .f32⟩
  | .local _ .vmem, ⟨2, _⟩ => ⟨S4x512x16, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1036 : Index := Scalar.indexCast v2
  let c0_72 : Index := 0#32
  let c0_73 : Index := 0#32
  ![v1036.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_81 : BitVec 32 := 0#32
  let c0_i32_82 : BitVec 32 := 0#32
  ![v2.toNat, 0, 0]
def k0_dev4 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_75 : BitVec 32 := 1#32
  let v1040 : BitVec 32 := Scalar.addi v2 c1_i32_75
  let c4_i32_76 : BitVec 32 := 4#32
  let v1041 : BitVec 32 := Scalar.remsi v1040 c4_i32_76
  let c1_i32_79 : BitVec 32 := 1#32
  let v1042 : BitVec 32 := Scalar.muli v1041 c1_i32_79
  let v1043 : BitVec 32 := Scalar.addi c0_i32_80 v1042
  v1043.toNat
def k0_dev5 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_85 : BitVec 32 := 2#32
  let v1052 : BitVec 32 := Scalar.addi v2 c2_i32_85
  let c4_i32_86 : BitVec 32 := 4#32
  let v1053 : BitVec 32 := Scalar.remsi v1052 c4_i32_86
  let c1_i32_89 : BitVec 32 := 1#32
  let v1054 : BitVec 32 := Scalar.muli v1053 c1_i32_89
  let v1055 : BitVec 32 := Scalar.addi c0_i32_90 v1054
  v1055.toNat
def k0_dev6 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_95 : BitVec 32 := 3#32
  let v1064 : BitVec 32 := Scalar.addi v2 c3_i32_95
  let c4_i32_96 : BitVec 32 := 4#32
  let v1065 : BitVec 32 := Scalar.remsi v1064 c4_i32_96
  let c1_i32_99 : BitVec 32 := 1#32
  let v1066 : BitVec 32 := Scalar.muli v1065 c1_i32_99
  let v1067 : BitVec 32 := Scalar.addi c0_i32_100 v1066
  v1067.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x16384 : Shape := ⟨2, ![512, 16384]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S512x16384, .f32⟩
  | .hbm, ⟨1, _⟩ => ⟨S512x16384, .f32⟩
  | .hbm, ⟨2, _⟩ => ⟨S512x16384, .i32⟩
  | .hbm, ⟨3, _⟩ => ⟨S512x16384, .f32⟩
  | .hbm, ⟨4, _⟩ => ⟨S512x16384, .i32⟩
  | .hbm, ⟨5, _⟩ => ⟨S512x16, .i32⟩
  | .hbm, ⟨6, _⟩ => ⟨S_, .i32⟩
  | .hbm, ⟨7, _⟩ => ⟨S512x16, .i32⟩
  | .hbm, ⟨8, _⟩ => ⟨S512x16, .i1⟩
  | .hbm, ⟨9, _⟩ => ⟨S_, .i32⟩
  | .hbm, ⟨10, _⟩ => ⟨S512x16, .i32⟩
  | .hbm, ⟨11, _⟩ => ⟨S512x16, .i32⟩
  | .hbm, ⟨12, _⟩ => ⟨S512x16, .i32⟩
  | .hbm, ⟨13, _⟩ => ⟨S512x16x1, .i32⟩
  | .hbm, ⟨14, _⟩ => ⟨S1, .i32⟩
  | .hbm, ⟨15, _⟩ => ⟨S_, .i32⟩
  | .hbm, ⟨16, _⟩ => ⟨S512x16x1, .i32⟩
  | .hbm, ⟨17, _⟩ => ⟨S512x16x1, .i1⟩
  | .hbm, ⟨18, _⟩ => ⟨S1x1x1, .i32⟩
  | .hbm, ⟨19, _⟩ => ⟨S512x16x1, .i32⟩
  | .hbm, ⟨20, _⟩ => ⟨S512x16x1, .i1⟩
  | .hbm, ⟨21, _⟩ => ⟨S512x16x1, .i1⟩
  | .hbm, ⟨22, _⟩ => ⟨S_, .i1⟩
  | .hbm, ⟨23, _⟩ => ⟨S512x16, .i1⟩
  | .hbm, ⟨24, _⟩ => ⟨S512x16, .f32⟩
  | .hbm, ⟨25, _⟩ => ⟨S_, .f32⟩
  | .hbm, ⟨26, _⟩ => ⟨S512x16, .f32⟩
  | .hbm, ⟨27, _⟩ => ⟨S512x16, .f32⟩
  | _, _ => ⟨S512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Values.lean ====
/- The values one device's body computes, written once over any float instance, and free of the
   printed program's names: the 32 column chunks of the local block, the compare-exchange stages of the
   merges, the folding of the 128 lanes onto 16, the candidate row and the repeated extraction of a
   row's maximum. The printed payloads are shown equal to these in the `Parts` modules. -/
module

public import Idealize.ShloMosaic.PureOps

@[expose] public section

noncomputable section

namespace Cert.TopK

open Idealize.ShloMosaic

/-- A block of 512 rows and `n` columns. -/
abbrev Sh (n : Nat) : Shape := ⟨2, ![512, n]⟩
/-- One entry per row. -/
abbrev Rows : Shape := ⟨1, ![512]⟩

variable {F : FTy → Type} [FloatOps F]

/-- The shape facts the extraction of maxima needs at row width `n`. -/
class Wid (n : Nat) : Prop where
  red : (Sh n).Reduces [1] Rows
  bc : (Sh 1).Broadcasts (Sh n)
  io : (Sh n).Iotas .tc 32 [1]

instance wid256 : Wid 256 := ⟨by decide, by decide, by decide⟩
instance wid64 : Wid 64 := ⟨by decide, by decide, by decide⟩

/-- Every chunk of 128 columns lies inside the block of 4096. -/
theorem chunk_slices (c : Nat) : (Sh 4096).Slices ![0, 128 * (c % 32)] (Sh 128) := by
  refine ⟨rfl, fun a => ?_⟩
  have h := Nat.mod_lt c (show 0 < 32 by decide)
  match a with
  | ⟨0, _⟩ => show 0 + 512 ≤ 512; omega
  | ⟨1, _⟩ => show 128 * (c % 32) + 128 ≤ 4096; omega

/-- Chunk `c` of the block: its columns `128 c … 128 c + 127`. -/
def chunk (x : FVec F (Sh 4096) .f32) (c : Nat) : FVec F (Sh 128) .f32 :=
  extractStridedSlice (Sh 128) ![0, 128 * (c % 32)] x (chunk_slices c)

/-- One compare-exchange stage at distance `d`: of positions `i` and `i + d` (`i`'s block of `d`
    even) the first keeps the entrywise maximum, the second the minimum. -/
abbrev ce (d : Nat) (f : Nat → FVec F (Sh 128) .f32) (i : Nat) : FVec F (Sh 128) .f32 :=
  cond (Nat.beq (i / d % 2) 0) (maximumf (f i) (f (i + d))) (minimumf (f (i - d)) (f i))

/-- The list `A` of `k` followed by the list `B` of `k` in reverse. -/
abbrev join (k : Nat) (A B : Nat → FVec F (Sh 128) .f32) (i : Nat) : FVec F (Sh 128) .f32 :=
  cond (Nat.blt i k) (A i) (B (2 * k - 1 - i))

/-- Merge number `j` of two lists of 1, after the stage at distance 1 (the last: the merged list). -/
def m1_1 (x : Nat → FVec F (Sh 128) .f32) (j : Nat) : Nat → FVec F (Sh 128) .f32 :=
  ce 1 (join 1 (fun _ => x (2 * j)) (fun _ => x (2 * j + 1)))
/-- Merge number `j` of two lists of 2, after the stage at distance 2. -/
def m2_2 (x : Nat → FVec F (Sh 128) .f32) (j : Nat) : Nat → FVec F (Sh 128) .f32 :=
  ce 2 (join 2 (m1_1 x (2 * j)) (m1_1 x (2 * j + 1)))
/-- Merge number `j` of two lists of 2, after the stage at distance 1 (the last: the merged list). -/
def m2_1 (x : Nat → FVec F (Sh 128) .f32) (j : Nat) : Nat → FVec F (Sh 128) .f32 :=
  ce 1 (m2_2 x j)
/-- Merge number `j` of two lists of 4, after the stage at distance 4. -/
def m4_4 (x : Nat → FVec F (Sh 128) .f32) (j : Nat) : Nat → FVec F (Sh 128) .f32 :=
  ce 4 (join 4 (m2_1 x (2 * j)) (m2_1 x (2 * j + 1)))
/-- Merge number `j` of two lists of 4, after the stage at distance 2. -/
def m4_2 (x : Nat → FVec F (Sh 128) .f32) (j : Nat) : Nat → FVec F (Sh 128) .f32 :=
  ce 2 (m4_4 x j)
/-- Merge number `j` of two lists of 4, after the stage at distance 1 (the last: the merged list). -/
def m4_1 (x : Nat → FVec F (Sh 128) .f32) (j : Nat) : Nat → FVec F (Sh 128) .f32 :=
  ce 1 (m4_2 x j)
/-- Merge number `j` of two lists of 8, after the stage at distance 8. -/
def m8_8 (x : Nat → FVec F (Sh 128) .f32) (j : Nat) : Nat → FVec F (Sh 128) .f32 :=
  ce 8 (join 8 (m4_1 x (2 * j)) (m4_1 x (2 * j + 1)))
/-- Merge number `j` of two lists of 8, after the stage at distance 4. -/
def m8_4 (x : Nat → FVec F (Sh 128) .f32) (j : Nat) : Nat → FVec F (Sh 128) .f32 :=
  ce 4 (m8_8 x j)
/-- Merge number `j` of two lists of 8, after the stage at distance 2. -/
def m8_2 (x : Nat → FVec F (Sh 128) .f32) (j : Nat) : Nat → FVec F (Sh 128) .f32 :=
  ce 2 (m8_4 x j)
/-- Merge number `j` of two lists of 8, after the stage at distance 1 (the last: the merged list). -/
def m8_1 (x : Nat → FVec F (Sh 128) .f32) (j : Nat) : Nat → FVec F (Sh 128) .f32 :=
  ce 1 (m8_2 x j)

/-- The two lists of 16 that are left, folded: position `i` of the first against position `15 - i` of
    the second, the greater kept. -/
def t0 (x : Nat → FVec F (Sh 128) .f32) (i : Nat) : FVec F (Sh 128) .f32 := maximumf (m8_1 x 0 i) (m8_1 x 1 (15 - i))
/-- The fold of the two lists of 16, after the stage at distance 8. -/
def t8 (x : Nat → FVec F (Sh 128) .f32) : Nat → FVec F (Sh 128) .f32 := ce 8 (t0 x)
/-- The fold of the two lists of 16, after the stage at distance 4. -/
def t4 (x : Nat → FVec F (Sh 128) .f32) : Nat → FVec F (Sh 128) .f32 := ce 4 (t8 x)
/-- The fold of the two lists of 16, after the stage at distance 2. -/
def t2 (x : Nat → FVec F (Sh 128) .f32) : Nat → FVec F (Sh 128) .f32 := ce 2 (t4 x)
/-- The fold of the two lists of 16, after the stage at distance 1. -/
def t1 (x : Nat → FVec F (Sh 128) .f32) : Nat → FVec F (Sh 128) .f32 := ce 1 (t2 x)

/-- The lanes rotated left by `h`. -/
def lrollOf (h : Nat) (h₁ : (Sh 128).Slices ![0, h] (Sh (128 - h))) (h₂ : (Sh 128).Slices ![0, 0] (Sh h))
    (h₃ : Shape.Concatenates [Sh (128 - h), Sh h] (Sh 128) 1) (a : FVec F (Sh 128) .f32) : FVec F (Sh 128) .f32 :=
  concatenate (Sh 128) 1 [⟨Sh (128 - h), extractStridedSlice (Sh (128 - h)) ![0, h] a h₁⟩, ⟨Sh h, extractStridedSlice (Sh h) ![0, 0] a h₂⟩] h₃

/-- A rotation amount this kernel uses, with the shape facts it needs. -/
class Roll (h : Nat) : Prop where
  hi : (Sh 128).Slices ![0, h] (Sh (128 - h))
  lo : (Sh 128).Slices ![0, 0] (Sh h)
  cat : Shape.Concatenates [Sh (128 - h), Sh h] (Sh 128) 1

instance roll64 : Roll 64 := ⟨by decide, by decide, by decide⟩
instance roll32 : Roll 32 := ⟨by decide, by decide, by decide⟩
instance roll16 : Roll 16 := ⟨by decide, by decide, by decide⟩

/-- The lanes rotated left by `h`: lane `l` of the result is lane `l + h` modulo 128. -/
def lroll (h : Nat) [H : Roll h] (a : FVec F (Sh 128) .f32) : FVec F (Sh 128) .f32 := lrollOf h H.hi H.lo H.cat a

/-- The fold of each lane with the lane 64 further on: position `i` against position `15 - i` there. -/
def r64_0 (x : Nat → FVec F (Sh 128) .f32) (i : Nat) : FVec F (Sh 128) .f32 := maximumf (t1 x i) (lroll 64 (t1 x (15 - i)))
/-- The fold of the lanes 64 apart, after the stage at distance 8. -/
def r64_8 (x : Nat → FVec F (Sh 128) .f32) : Nat → FVec F (Sh 128) .f32 := ce 8 (r64_0 x)
/-- The fold of the lanes 64 apart, after the stage at distance 4. -/
def r64_4 (x : Nat → FVec F (Sh 128) .f32) : Nat → FVec F (Sh 128) .f32 := ce 4 (r64_8 x)
/-- The fold of the lanes 64 apart, after the stage at distance 2. -/
def r64_2 (x : Nat → FVec F (Sh 128) .f32) : Nat → FVec F (Sh 128) .f32 := ce 2 (r64_4 x)
/-- The fold of the lanes 64 apart, after the stage at distance 1. -/
def r64_1 (x : Nat → FVec F (Sh 128) .f32) : Nat → FVec F (Sh 128) .f32 := ce 1 (r64_2 x)
/-- The fold of each lane with the lane 32 further on: position `i` against position `15 - i` there. -/
def r32_0 (x : Nat → FVec F (Sh 128) .f32) (i : Nat) : FVec F (Sh 128) .f32 := maximumf (r64_1 x i) (lroll 32 (r64_1 x (15 - i)))
/-- The fold of the lanes 32 apart, after the stage at distance 8. -/
def r32_8 (x : Nat → FVec F (Sh 128) .f32) : Nat → FVec F (Sh 128) .f32 := ce 8 (r32_0 x)
/-- The fold of the lanes 32 apart, after the stage at distance 4. -/
def r32_4 (x : Nat → FVec F (Sh 128) .f32) : Nat → FVec F (Sh 128) .f32 := ce 4 (r32_8 x)
/-- The fold of the lanes 32 apart, after the stage at distance 2. -/
def r32_2 (x : Nat → FVec F (Sh 128) .f32) : Nat → FVec F (Sh 128) .f32 := ce 2 (r32_4 x)
/-- The fold of the lanes 32 apart, after the stage at distance 1. -/
def r32_1 (x : Nat → FVec F (Sh 128) .f32) : Nat → FVec F (Sh 128) .f32 := ce 1 (r32_2 x)
/-- The fold of each lane with the lane 16 further on: position `i` against position `15 - i` there. -/
def r16_0 (x : Nat → FVec F (Sh 128) .f32) (i : Nat) : FVec F (Sh 128) .f32 := maximumf (r32_1 x i) (lroll 16 (r32_1 x (15 - i)))
/-- The fold of the lanes 16 apart, after the stage at distance 8. -/
def r16_8 (x : Nat → FVec F (Sh 128) .f32) : Nat → FVec F (Sh 128) .f32 := ce 8 (r16_0 x)
/-- The fold of the lanes 16 apart, after the stage at distance 4. -/
def r16_4 (x : Nat → FVec F (Sh 128) .f32) : Nat → FVec F (Sh 128) .f32 := ce 4 (r16_8 x)
/-- The fold of the lanes 16 apart, after the stage at distance 2. -/
def r16_2 (x : Nat → FVec F (Sh 128) .f32) : Nat → FVec F (Sh 128) .f32 := ce 2 (r16_4 x)
/-- The fold of the lanes 16 apart, after the stage at distance 1. -/
def r16_1 (x : Nat → FVec F (Sh 128) .f32) : Nat → FVec F (Sh 128) .f32 := ce 1 (r16_2 x)

/-- The first 16 lanes. -/
def lanes16 (a : FVec F (Sh 128) .f32) : FVec F (Sh 16) .f32 := extractStridedSlice (Sh 16) ![0, 0] a (by decide)

/-- Sixteen blocks of 16 columns make 256. -/
theorem cat_cand : Shape.Concatenates [Sh 16, Sh 16, Sh 16, Sh 16, Sh 16, Sh 16, Sh 16, Sh 16, Sh 16, Sh 16, Sh 16, Sh 16, Sh 16, Sh 16, Sh 16, Sh 16] (Sh 256) 1 := by decide
/-- Sixteen columns make 16. -/
theorem cat_top16 : Shape.Concatenates [Sh 1, Sh 1, Sh 1, Sh 1, Sh 1, Sh 1, Sh 1, Sh 1, Sh 1, Sh 1, Sh 1, Sh 1, Sh 1, Sh 1, Sh 1, Sh 1] (Sh 16) 1 := by decide
/-- Four blocks of 16 columns make 64. -/
theorem cat_gathered : Shape.Concatenates [Sh 16, Sh 16, Sh 16, Sh 16] (Sh 64) 1 := by decide

/-- The candidate row: for each of the 16 positions its first 16 lanes, side by side. -/
def cand (x : Nat → FVec F (Sh 128) .f32) : FVec F (Sh 256) .f32 :=
  concatenate (Sh 256) 1 [⟨Sh 16, lanes16 (r16_1 x 0)⟩, ⟨Sh 16, lanes16 (r16_1 x 1)⟩, ⟨Sh 16, lanes16 (r16_1 x 2)⟩, ⟨Sh 16, lanes16 (r16_1 x 3)⟩, ⟨Sh 16, lanes16 (r16_1 x 4)⟩, ⟨Sh 16, lanes16 (r16_1 x 5)⟩, ⟨Sh 16, lanes16 (r16_1 x 6)⟩, ⟨Sh 16, lanes16 (r16_1 x 7)⟩, ⟨Sh 16, lanes16 (r16_1 x 8)⟩, ⟨Sh 16, lanes16 (r16_1 x 9)⟩, ⟨Sh 16, lanes16 (r16_1 x 10)⟩, ⟨Sh 16, lanes16 (r16_1 x 11)⟩, ⟨Sh 16, lanes16 (r16_1 x 12)⟩, ⟨Sh 16, lanes16 (r16_1 x 13)⟩, ⟨Sh 16, lanes16 (r16_1 x 14)⟩, ⟨Sh 16, lanes16 (r16_1 x 15)⟩] cat_cand

/-! ## Extraction of the greatest entries of a row, one at a time -/

section Extract
variable {n : Nat} [H : Wid n]

/-- Each row's maximum. -/
def redMax (W : FVec F (Sh n) .f32) : FVec F Rows .f32 := multiReduction .maximumf [1] Rows W 0xFF800000#32 H.red (.inl rfl) rfl
/-- Each row's maximum, as a column. -/
def rowMax (W : FVec F (Sh n) .f32) : FVec F (Sh 1) .f32 := shapeCast (Sh 1) (redMax W) (by decide)
/-- The lane numbers. -/
def lanes (n : Nat) [H : Wid n] : IVec (Sh n) 32 := iota .tc (Sh n) 32 [1] H.io
/-- Which entries equal their row's maximum. -/
def eqMask (W : FVec F (Sh n) .f32) : IVec (Sh n) 1 := cmpf .oeq W (broadcastTo (Sh n) (rowMax W) H.bc)
/-- The lane numbers where the entry is the row's maximum, `n` elsewhere. -/
def idxs (W : FVec F (Sh n) .f32) : IVec (Sh n) 32 := select (eqMask W) (lanes n) (broadcast (Sh n) (BitVec.ofNat 32 n))
/-- The first lane at which each row's maximum stands. -/
def minIdx (W : FVec F (Sh n) .f32) : IVec Rows 32 := multiReductionI .minsi [1] Rows (idxs W) 2147483647#32 H.red rfl
/-- The mask of that lane. -/
def fstMask (W : FVec F (Sh n) .f32) : IVec (Sh n) 1 :=
  cmpi .eq (idxs W) (broadcastTo (Sh n) (shapeCast (Sh 1) (minIdx W) (by decide)) H.bc)
/-- The block with the first maximum of every row replaced by `-∞`. -/
def next (W : FVec F (Sh n) .f32) : FVec F (Sh n) .f32 :=
  select (fstMask W) (broadcast (Sh n) (Scalar.ofBits .f32 0xFF800000#32)) W
/-- The block after `j` extractions. -/
def work (W : FVec F (Sh n) .f32) : Nat → FVec F (Sh n) .f32
  | 0 => W
  | j + 1 => next (work W j)
/-- The sixteen extracted maxima, side by side. -/
def top16 (W : FVec F (Sh n) .f32) : FVec F (Sh 16) .f32 :=
  concatenate (Sh 16) 1 [⟨Sh 1, rowMax (work W 0)⟩, ⟨Sh 1, rowMax (work W 1)⟩, ⟨Sh 1, rowMax (work W 2)⟩, ⟨Sh 1, rowMax (work W 3)⟩, ⟨Sh 1, rowMax (work W 4)⟩, ⟨Sh 1, rowMax (work W 5)⟩, ⟨Sh 1, rowMax (work W 6)⟩, ⟨Sh 1, rowMax (work W 7)⟩, ⟨Sh 1, rowMax (work W 8)⟩, ⟨Sh 1, rowMax (work W 9)⟩, ⟨Sh 1, rowMax (work W 10)⟩, ⟨Sh 1, rowMax (work W 11)⟩, ⟨Sh 1, rowMax (work W 12)⟩, ⟨Sh 1, rowMax (work W 13)⟩, ⟨Sh 1, rowMax (work W 14)⟩, ⟨Sh 1, rowMax (work W 15)⟩] cat_top16

end Extract

/-- The four devices' slots side by side. -/
def gathered (a b c d : FVec F ⟨3, ![1, 512, 16]⟩ .f32) : FVec F (Sh 64) .f32 :=
  concatenate (Sh 64) 1 [⟨Sh 16, shapeCast (Sh 16) a (by decide)⟩, ⟨Sh 16, shapeCast (Sh 16) b (by decide)⟩,
    ⟨Sh 16, shapeCast (Sh 16) c (by decide)⟩, ⟨Sh 16, shapeCast (Sh 16) d (by decide)⟩] cat_gathered

end Cert.TopK

end
-- ==== Proof.PartsIdeal.lean ====
/- What each pure stretch of the printed kernel body returns, given that its arguments are the values of
   Values.lean: again values of Values.lean. One lemma per stretch of the positional cut, each by
   unfolding; the memory stretches' payloads likewise. -/
module

public import proofs.«01_k».proof.Proof.Gen.KernelIdeal.Skeleton
public import proofs.«01_k».proof.Proof.Values

@[expose] public section

set_option maxRecDepth 65536

noncomputable section

namespace Cert.KernelIdeal.TopK

open Idealize.ShloMosaic Idealize.SL.Sem Cert.TopK Cert.KernelIdeal.Gen

variable {F : FTy → Type} [FloatOps F]

section Stretches

variable (arg0 : Memref sig .tc .vmem S512x4096 .f32) (harg0 : arg0.IsWhole) (arg1 : Memref sig .tc .vmem S512x16 .f32) (harg1 : arg1.IsWhole)
    (arg2 : Memref sig .tc .vmem S4x512x16 .f32) (harg2 : arg2.IsWhole) (arg3 : DmaSems sig S3) (arg4 : DmaSems sig S3)

/-- Stretch 2 of the body, from values of the network at `X`, returns values of the network. -/
theorem part2 (X : FVec F (Sh 4096) .f32) :
    k0_part2 (F := F) arg0 harg0 arg1 harg1 arg2 harg2 arg3 arg4
      X (chunk X 0) (chunk X 1) (chunk X 2) (chunk X 3) (chunk X 4) (chunk X 5) (chunk X 6) (chunk X 7) (chunk X 8) (chunk X 9)
      (chunk X 10) (chunk X 11) (chunk X 12) (chunk X 13) (chunk X 14) (chunk X 15) (chunk X 16) (chunk X 17) (chunk X 18) =
    pure
      ⟨(m1_1 (chunk X) 4 0), (m1_1 (chunk X) 4 1), (m1_1 (chunk X) 5 0), (m1_1 (chunk X) 5 1), (m1_1 (chunk X) 6 0), (m1_1 (chunk
      X) 6 1), (m1_1 (chunk X) 7 0), (m1_1 (chunk X) 7 1), (m1_1 (chunk X) 8 0), (m1_1 (chunk X) 8 1), (m1_1 (chunk X) 9 0), (m1_1
      (chunk X) 9 1), (m1_1 (chunk X) 10 0), (m1_1 (chunk X) 10 1), (m1_1 (chunk X) 11 0), (m1_1 (chunk X) 11 1), (m1_1 (chunk X)
      12 0), (m1_1 (chunk X) 12 1), (m1_1 (chunk X) 13 0), (m1_1 (chunk X) 13 1), (m1_1 (chunk X) 14 0), (m1_1 (chunk X) 14 1),
      (m1_1 (chunk X) 15 0), (m1_1 (chunk X) 15 1), (m2_1 (chunk X) 0 0), (m2_1 (chunk X) 0 1), (m2_1 (chunk X) 0 2), (m2_1 (chunk
      X) 0 3), (m2_2 (chunk X) 1 2), (m2_2 (chunk X) 1 3), (m2_1 (chunk X) 1 0), (m2_1 (chunk X) 1 1), (m2_1 (chunk X) 1 2)⟩ := by
  rw [k0_part2_eq_skeleton]; rfl

/-- Stretch 3 of the body, from values of the network at `x`, returns values of the network. -/
theorem part3 (x : Nat → FVec F (Sh 128) .f32) :
    k0_part3 (F := F) arg0 harg0 arg1 harg1 arg2 harg2 arg3 arg4
      (m1_1 x 4 0) (m1_1 x 4 1) (m1_1 x 5 0) (m1_1 x 5 1) (m1_1 x 6 0) (m1_1 x 6 1) (m1_1 x 7 0) (m1_1 x 7 1) (m1_1 x 8 0) (m1_1 x
      8 1) (m1_1 x 9 0) (m1_1 x 9 1) (m1_1 x 10 0) (m1_1 x 10 1) (m1_1 x 11 0) (m1_1 x 11 1) (m1_1 x 12 0) (m1_1 x 12 1) (m1_1 x
      13 0) (m1_1 x 13 1) (m1_1 x 14 0) (m1_1 x 14 1) (m1_1 x 15 0) (m1_1 x 15 1) (m2_1 x 0 0) (m2_1 x 0 1) (m2_1 x 0 2) (m2_1 x 0
      3) (m2_2 x 1 2) (m2_2 x 1 3) (m2_1 x 1 0) (m2_1 x 1 1) (m2_1 x 1 2) =
    pure
      ⟨(m2_1 x 2 0), (m2_1 x 2 1), (m2_1 x 2 2), (m2_1 x 2 3), (m2_1 x 3 0), (m2_1 x 3 1), (m2_1 x 3 2), (m2_1 x 3 3), (m2_1 x 4
      0), (m2_1 x 4 1), (m2_1 x 4 2), (m2_1 x 4 3), (m2_1 x 5 0), (m2_1 x 5 1), (m2_1 x 5 2), (m2_1 x 5 3), (m2_1 x 6 0), (m2_1 x
      6 1), (m2_1 x 6 2), (m2_1 x 6 3), (m2_1 x 7 0), (m2_1 x 7 1), (m2_1 x 7 2), (m2_1 x 7 3), (m4_4 x 0 4), (m4_4 x 0 1), (m4_4
      x 0 5), (m4_4 x 0 6), (m4_4 x 0 3), (m4_4 x 0 7), (m4_2 x 0 0), (m4_2 x 0 2), (m4_2 x 0 1)⟩ := by
  rw [k0_part3_eq_skeleton]; rfl

/-- Stretch 4 of the body, from values of the network at `x`, returns values of the network. -/
theorem part4 (x : Nat → FVec F (Sh 128) .f32) :
    k0_part4 (F := F) arg0 harg0 arg1 harg1 arg2 harg2 arg3 arg4
      (m2_1 x 2 0) (m2_1 x 2 1) (m2_1 x 2 2) (m2_1 x 2 3) (m2_1 x 3 0) (m2_1 x 3 1) (m2_1 x 3 2) (m2_1 x 3 3) (m2_1 x 4 0) (m2_1 x
      4 1) (m2_1 x 4 2) (m2_1 x 4 3) (m2_1 x 5 0) (m2_1 x 5 1) (m2_1 x 5 2) (m2_1 x 5 3) (m4_4 x 0 4) (m4_4 x 0 1) (m4_4 x 0 5)
      (m4_4 x 0 6) (m4_4 x 0 3) (m4_4 x 0 7) (m4_2 x 0 0) (m4_2 x 0 2) (m4_2 x 0 1) =
    pure
      ⟨(m4_1 x 0 0), (m4_1 x 0 1), (m4_1 x 0 2), (m4_1 x 0 3), (m4_1 x 0 4), (m4_1 x 0 5), (m4_1 x 0 6), (m4_1 x 0 7), (m4_1 x 1
      0), (m4_1 x 1 1), (m4_1 x 1 2), (m4_1 x 1 3), (m4_1 x 1 4), (m4_1 x 1 5), (m4_1 x 1 6), (m4_1 x 1 7), (m4_2 x 2 6), (m4_2 x
      2 7), (m4_1 x 2 0), (m4_1 x 2 1), (m4_1 x 2 2), (m4_1 x 2 3), (m4_1 x 2 4), (m4_1 x 2 5), (m4_1 x 2 6)⟩ := by
  rw [k0_part4_eq_skeleton]; rfl

/-- Stretch 5 of the body, from values of the network at `x`, returns values of the network. -/
theorem part5 (x : Nat → FVec F (Sh 128) .f32) :
    k0_part5 (F := F) arg0 harg0 arg1 harg1 arg2 harg2 arg3 arg4
      (m2_1 x 6 0) (m2_1 x 6 1) (m2_1 x 6 2) (m2_1 x 6 3) (m2_1 x 7 0) (m2_1 x 7 1) (m2_1 x 7 2) (m2_1 x 7 3) (m4_1 x 0 0) (m4_1 x
      0 1) (m4_1 x 0 2) (m4_1 x 0 3) (m4_1 x 0 4) (m4_1 x 0 5) (m4_1 x 0 6) (m4_1 x 0 7) (m4_1 x 1 0) (m4_1 x 1 1) (m4_1 x 1 2)
      (m4_1 x 1 3) (m4_1 x 1 4) (m4_1 x 1 5) (m4_1 x 1 6) (m4_1 x 1 7) (m4_2 x 2 6) (m4_2 x 2 7) =
    pure
      ⟨(m4_1 x 2 7), (m4_1 x 3 0), (m4_1 x 3 1), (m4_1 x 3 2), (m4_1 x 3 3), (m4_1 x 3 4), (m4_1 x 3 5), (m4_1 x 3 6), (m4_1 x 3
      7), (m8_4 x 0 4), (m8_4 x 0 1), (m8_4 x 0 5), (m8_4 x 0 6), (m8_4 x 0 3), (m8_4 x 0 7), (m8_4 x 0 8), (m8_4 x 0 12), (m8_4 x
      0 9), (m8_4 x 0 13), (m8_4 x 0 10), (m8_4 x 0 14), (m8_4 x 0 11), (m8_4 x 0 15), (m8_2 x 0 0), (m8_2 x 0 2), (m8_2 x 0 1)⟩ := by
  rw [k0_part5_eq_skeleton]; rfl

/-- Stretch 6 of the body, from values of the network at `x`, returns values of the network. -/
theorem part6 (x : Nat → FVec F (Sh 128) .f32) :
    k0_part6 (F := F) arg0 harg0 arg1 harg1 arg2 harg2 arg3 arg4
      (m4_1 x 2 0) (m4_1 x 2 1) (m4_1 x 2 2) (m4_1 x 2 3) (m4_1 x 2 4) (m4_1 x 2 5) (m4_1 x 2 6) (m4_1 x 2 7) (m4_1 x 3 0) (m4_1 x
      3 1) (m4_1 x 3 2) (m4_1 x 3 3) (m4_1 x 3 4) (m4_1 x 3 5) (m4_1 x 3 6) (m4_1 x 3 7) (m8_4 x 0 4) (m8_4 x 0 1) (m8_4 x 0 5)
      (m8_4 x 0 6) (m8_4 x 0 3) (m8_4 x 0 7) (m8_4 x 0 8) (m8_4 x 0 12) (m8_4 x 0 9) (m8_4 x 0 13) (m8_4 x 0 10) (m8_4 x 0 14)
      (m8_4 x 0 11) (m8_4 x 0 15) (m8_2 x 0 0) (m8_2 x 0 2) (m8_2 x 0 1) =
    pure
      ⟨(m8_1 x 0 0), (m8_1 x 0 1), (m8_1 x 0 2), (m8_1 x 0 3), (m8_1 x 0 4), (m8_1 x 0 5), (m8_1 x 0 6), (m8_1 x 0 7), (m8_1 x 0
      8), (m8_1 x 0 9), (m8_1 x 0 10), (m8_1 x 0 11), (m8_1 x 0 12), (m8_1 x 0 13), (m8_1 x 0 14), (m8_1 x 0 15), (m8_8 x 1 11),
      (m8_8 x 1 15), (m8_4 x 1 0), (m8_4 x 1 4), (m8_4 x 1 1), (m8_4 x 1 5), (m8_4 x 1 2), (m8_4 x 1 6), (m8_4 x 1 3), (m8_4 x 1
      7), (m8_4 x 1 8), (m8_4 x 1 12), (m8_4 x 1 9), (m8_4 x 1 13), (m8_4 x 1 10), (m8_4 x 1 14), (m8_4 x 1 11)⟩ := by
  rw [k0_part6_eq_skeleton]; rfl

/-- Stretch 7 of the body, from values of the network at `x`, returns values of the network. -/
theorem part7 (x : Nat → FVec F (Sh 128) .f32) :
    k0_part7 (F := F) arg0 harg0 arg1 harg1 arg2 harg2 arg3 arg4
      (m8_1 x 0 0) (m8_1 x 0 1) (m8_1 x 0 2) (m8_1 x 0 3) (m8_1 x 0 4) (m8_1 x 0 5) (m8_1 x 0 6) (m8_1 x 0 7) (m8_1 x 0 8) (m8_1 x
      0 9) (m8_1 x 0 10) (m8_1 x 0 11) (m8_1 x 0 12) (m8_1 x 0 13) (m8_1 x 0 14) (m8_1 x 0 15) (m8_8 x 1 11) (m8_8 x 1 15) (m8_4 x
      1 0) (m8_4 x 1 4) (m8_4 x 1 1) (m8_4 x 1 5) (m8_4 x 1 2) (m8_4 x 1 6) (m8_4 x 1 3) (m8_4 x 1 7) (m8_4 x 1 8) (m8_4 x 1 12)
      (m8_4 x 1 9) (m8_4 x 1 13) (m8_4 x 1 10) (m8_4 x 1 14) (m8_4 x 1 11) =
    pure
      ⟨(t0 x 5), (t0 x 6), (t0 x 7), (t0 x 13), (t0 x 14), (t0 x 15), (t8 x 0), (t8 x 8), (t8 x 1), (t8 x 9), (t8 x 2), (t8 x 10),
      (t8 x 3), (t8 x 11), (t8 x 4), (t8 x 12), (t8 x 5)⟩ := by
  rw [k0_part7_eq_skeleton]; rfl

/-- Stretch 8 of the body, from values of the network at `x`, returns values of the network. -/
theorem part8 (x : Nat → FVec F (Sh 128) .f32) :
    k0_part8 (F := F) arg0 harg0 arg1 harg1 arg2 harg2 arg3 arg4
      (t0 x 5) (t0 x 6) (t0 x 7) (t0 x 13) (t0 x 14) (t0 x 15) (t8 x 0) (t8 x 8) (t8 x 1) (t8 x 9) (t8 x 2) (t8 x 10) (t8 x 3) (t8
      x 11) (t8 x 4) (t8 x 12) (t8 x 5) =
    pure
      ⟨(t1 x 0), (t1 x 1), (t1 x 2), (t1 x 3), (t1 x 4), (t1 x 5), (t1 x 6), (t1 x 7), (t1 x 8), (t1 x 9), (t1 x 10), (t1 x 11),
      (t1 x 12), (t1 x 13), (t1 x 14), (t1 x 15), (r64_0 x 0), (lroll 64 (t1 x 14))⟩ := by
  rw [k0_part8_eq_skeleton]; rfl

/-- Stretch 9 of the body, from values of the network at `x`, returns values of the network. -/
theorem part9 (x : Nat → FVec F (Sh 128) .f32) :
    k0_part9 (F := F) arg0 harg0 arg1 harg1 arg2 harg2 arg3 arg4
      (t1 x 0) (t1 x 1) (t1 x 2) (t1 x 3) (t1 x 4) (t1 x 5) (t1 x 6) (t1 x 7) (t1 x 8) (t1 x 9) (t1 x 10) (t1 x 11) (t1 x 12) (t1
      x 13) (t1 x 14) (t1 x 15) (r64_0 x 0) (lroll 64 (t1 x 14)) =
    pure
      ⟨(r64_0 x 1), (r64_0 x 2), (r64_0 x 3), (r64_0 x 4), (r64_0 x 5), (r64_0 x 6), (r64_0 x 7), (r64_0 x 9), (r64_0 x 10),
      (r64_0 x 11), (r64_0 x 12), (r64_0 x 13), (r64_0 x 14), (r64_0 x 15), (r64_8 x 0), (r64_8 x 8), (r64_8 x 1)⟩ := by
  rw [k0_part9_eq_skeleton]; rfl

/-- Stretch 10 of the body, from values of the network at `x`, returns values of the network. -/
theorem part10 (x : Nat → FVec F (Sh 128) .f32) :
    k0_part10 (F := F) arg0 harg0 arg1 harg1 arg2 harg2 arg3 arg4
      (r64_0 x 1) (r64_0 x 2) (r64_0 x 3) (r64_0 x 4) (r64_0 x 5) (r64_0 x 6) (r64_0 x 7) (r64_0 x 9) (r64_0 x 10) (r64_0 x 11)
      (r64_0 x 12) (r64_0 x 13) (r64_0 x 14) (r64_0 x 15) (r64_8 x 0) (r64_8 x 8) (r64_8 x 1) =
    pure
      ⟨(r64_2 x 14), (r64_2 x 15), (r64_1 x 0), (r64_1 x 1), (r64_1 x 2), (r64_1 x 3), (r64_1 x 4), (r64_1 x 5), (r64_1 x 6),
      (r64_1 x 7), (r64_1 x 8), (r64_1 x 9), (r64_1 x 10), (r64_1 x 11), (r64_1 x 12), (r64_1 x 13), (r64_1 x 14)⟩ := by
  rw [k0_part10_eq_skeleton]; rfl

/-- Stretch 11 of the body, from values of the network at `x`, returns values of the network. -/
theorem part11 (x : Nat → FVec F (Sh 128) .f32) :
    k0_part11 (F := F) arg0 harg0 arg1 harg1 arg2 harg2 arg3 arg4
      (r64_2 x 14) (r64_2 x 15) (r64_1 x 0) (r64_1 x 1) (r64_1 x 2) (r64_1 x 3) (r64_1 x 4) (r64_1 x 5) (r64_1 x 6) (r64_1 x 7)
      (r64_1 x 8) (r64_1 x 9) (r64_1 x 10) (r64_1 x 11) (r64_1 x 12) (r64_1 x 13) (r64_1 x 14) =
    pure
      ⟨(r64_1 x 15), (r32_0 x 0), (r32_0 x 1), (r32_0 x 2), (r32_0 x 3), (r32_0 x 4), (r32_0 x 5), (r32_0 x 6), (r32_0 x 7),
      (r32_0 x 8), (r32_0 x 9), (r32_0 x 10), (r32_0 x 11), (r32_0 x 12), (r32_0 x 13), (lroll 32 (r64_1 x 1))⟩ := by
  rw [k0_part11_eq_skeleton]; rfl

/-- Stretch 12 of the body, from values of the network at `x`, returns values of the network. -/
theorem part12 (x : Nat → FVec F (Sh 128) .f32) :
    k0_part12 (F := F) arg0 harg0 arg1 harg1 arg2 harg2 arg3 arg4
      (r64_1 x 0) (r64_1 x 14) (r64_1 x 15) (r32_0 x 0) (r32_0 x 1) (r32_0 x 2) (r32_0 x 3) (r32_0 x 4) (r32_0 x 5) (r32_0 x 6)
      (r32_0 x 7) (r32_0 x 8) (r32_0 x 9) (r32_0 x 10) (r32_0 x 11) (r32_0 x 12) (r32_0 x 13) (lroll 32 (r64_1 x 1)) =
    pure
      ⟨(r32_2 x 6), (r32_2 x 7), (r32_2 x 8), (r32_2 x 10), (r32_2 x 9), (r32_2 x 11), (r32_2 x 12), (r32_2 x 14), (r32_2 x 13),
      (r32_2 x 15), (r32_1 x 0), (r32_1 x 1), (r32_1 x 2), (r32_1 x 3), (r32_1 x 4), (r32_1 x 5), (r32_1 x 6)⟩ := by
  rw [k0_part12_eq_skeleton]; rfl

/-- Stretch 13 of the body, from values of the network at `x`, returns values of the network. -/
theorem part13 (x : Nat → FVec F (Sh 128) .f32) :
    k0_part13 (F := F) arg0 harg0 arg1 harg1 arg2 harg2 arg3 arg4
      (r32_2 x 6) (r32_2 x 7) (r32_2 x 8) (r32_2 x 10) (r32_2 x 9) (r32_2 x 11) (r32_2 x 12) (r32_2 x 14) (r32_2 x 13) (r32_2 x
      15) (r32_1 x 0) (r32_1 x 1) (r32_1 x 2) (r32_1 x 3) (r32_1 x 4) (r32_1 x 5) (r32_1 x 6) =
    pure
      ⟨(r32_1 x 12), (r32_1 x 13), (r32_1 x 14), (r32_1 x 15), (r16_0 x 0), (r16_0 x 1), (r16_0 x 2), (r16_0 x 3), (r16_0 x 4),
      (r16_0 x 5), (r16_0 x 6), (r16_0 x 7), (r16_0 x 8), (r16_0 x 9), (r16_0 x 10), (r16_0 x 11), (lroll 16 (r32_1 x 3))⟩ := by
  rw [k0_part13_eq_skeleton]; rfl

/-- Stretch 14 of the body, from values of the network at `x`, returns values of the network. -/
theorem part14 (x : Nat → FVec F (Sh 128) .f32) :
    k0_part14 (F := F) arg0 harg0 arg1 harg1 arg2 harg2 arg3 arg4
      (r32_1 x 0) (r32_1 x 1) (r32_1 x 2) (r32_1 x 12) (r32_1 x 13) (r32_1 x 14) (r32_1 x 15) (r16_0 x 0) (r16_0 x 1) (r16_0 x 2)
      (r16_0 x 3) (r16_0 x 4) (r16_0 x 5) (r16_0 x 6) (r16_0 x 7) (r16_0 x 8) (r16_0 x 9) (r16_0 x 10) (r16_0 x 11) (lroll 16
      (r32_1 x 3)) =
    pure
      ⟨(r16_4 x 13), (r16_4 x 15), (r16_2 x 0), (r16_2 x 2), (r16_2 x 1), (r16_2 x 3), (r16_2 x 4), (r16_2 x 6), (r16_2 x 5),
      (r16_2 x 7), (r16_2 x 8), (r16_2 x 10), (r16_2 x 9), (r16_2 x 11), (r16_2 x 12), (r16_2 x 14), (r16_2 x 13)⟩ := by
  rw [k0_part14_eq_skeleton]; rfl

/-- Stretch 15 of the body, from values of the network at `x`, returns values of the network. -/
theorem part15 (x : Nat → FVec F (Sh 128) .f32) :
    k0_part15 (F := F) arg0 harg0 arg1 harg1 arg2 harg2 arg3 arg4
      (r16_4 x 13) (r16_4 x 15) (r16_2 x 0) (r16_2 x 2) (r16_2 x 1) (r16_2 x 3) (r16_2 x 4) (r16_2 x 6) (r16_2 x 5) (r16_2 x 7)
      (r16_2 x 8) (r16_2 x 10) (r16_2 x 9) (r16_2 x 11) (r16_2 x 12) (r16_2 x 14) (r16_2 x 13) =
    pure
      ⟨(lanes 256), (rowMax (work (cand x) 0)), (work (cand x) 1), (rowMax (work (cand x) 1)), (idxs (work (cand x) 1))⟩ := by
  rw [k0_part15_eq_skeleton]; rfl

/-- Stretch 16 of the body, from values of the network at `x`, returns values of the network. -/
theorem part16 (x : Nat → FVec F (Sh 128) .f32) :
    k0_part16 (F := F) arg0 harg0 arg1 harg1 arg2 harg2 arg3 arg4
      (lanes 256) (work (cand x) 1) (idxs (work (cand x) 1)) =
    pure
      ⟨(rowMax (work (cand x) 2)), (rowMax (work (cand x) 3)), (rowMax (work (cand x) 4)), (work (cand x) 5), (rowMax (work (cand
      x) 5)), (eqMask (work (cand x) 5))⟩ := by
  rw [k0_part16_eq_skeleton]; rfl

/-- Stretch 17 of the body, from values of the network at `x`, returns values of the network. -/
theorem part17 (x : Nat → FVec F (Sh 128) .f32) :
    k0_part17 (F := F) arg0 harg0 arg1 harg1 arg2 harg2 arg3 arg4
      (lanes 256) (work (cand x) 5) (eqMask (work (cand x) 5)) =
    pure
      ⟨(rowMax (work (cand x) 6)), (rowMax (work (cand x) 7)), (rowMax (work (cand x) 8)), (work (cand x) 9)⟩ := by
  rw [k0_part17_eq_skeleton]; rfl

/-- Stretch 18 of the body, from values of the network at `x`, returns values of the network. -/
theorem part18 (x : Nat → FVec F (Sh 128) .f32) :
    k0_part18 (F := F) arg0 harg0 arg1 harg1 arg2 harg2 arg3 arg4
      (lanes 256) (work (cand x) 9) =
    pure
      ⟨(rowMax (work (cand x) 9)), (rowMax (work (cand x) 10)), (rowMax (work (cand x) 11)), (work (cand x) 12), (rowMax (work
      (cand x) 12)), (fstMask (work (cand x) 12))⟩ := by
  rw [k0_part18_eq_skeleton]; rfl

/-- Stretch 23 of the body, from values of the network at `W`, returns values of the network. -/
theorem part23 (W : FVec F (Sh 64) .f32) :
    k0_part23 (F := F) arg0 harg0 arg1 harg1 arg2 harg2 arg3 arg4
      W (lanes 64) (eqMask (work W 0)) 64#32 =
    pure
      ⟨(rowMax (work W 1)), (rowMax (work W 2)), (rowMax (work W 3)), (work W 4), (redMax (work W 4))⟩ := by
  rw [k0_part23_eq_skeleton]; rfl

/-- Stretch 24 of the body, from values of the network at `W`, returns values of the network. -/
theorem part24 (W : FVec F (Sh 64) .f32) :
    k0_part24 (F := F) arg0 harg0 arg1 harg1 arg2 harg2 arg3 arg4
      (lanes 64) (work W 4) (redMax (work W 4)) =
    pure
      ⟨(rowMax (work W 4)), (rowMax (work W 5)), (rowMax (work W 6)), (work W 7), (rowMax (work W 7)), (fstMask (work W 7)),
      (Scalar.ofBits .f32 0xFF800000#32)⟩ := by
  rw [k0_part24_eq_skeleton]; rfl

/-- Stretch 25 of the body, from values of the network at `W`, returns values of the network. -/
theorem part25 (W : FVec F (Sh 64) .f32) :
    k0_part25 (F := F) arg0 harg0 arg1 harg1 arg2 harg2 arg3 arg4
      (lanes 64) (work W 7) (fstMask (work W 7)) (Scalar.ofBits .f32 0xFF800000#32) =
    pure
      ⟨(rowMax (work W 8)), (rowMax (work W 9)), (rowMax (work W 10)), (work W 11), (rowMax (work W 11)), (idxs (work W 11)),
      (minIdx (work W 11))⟩ := by
  rw [k0_part25_eq_skeleton]; rfl

/-- Stretch 26 of the body, from values of the network at `W`, returns values of the network. -/
theorem part26 (W : FVec F (Sh 64) .f32) :
    k0_part26 (F := F) arg0 harg0 arg1 harg1 arg2 harg2 arg3 arg4
      (lanes 64) (rowMax (work W 0)) (rowMax (work W 1)) (rowMax (work W 2)) (rowMax (work W 3)) (rowMax (work W 4)) (rowMax (work
      W 5)) (rowMax (work W 6)) (rowMax (work W 7)) (rowMax (work W 8)) (rowMax (work W 9)) (rowMax (work W 10)) (work W 11)
      (rowMax (work W 11)) (idxs (work W 11)) (minIdx (work W 11)) =
    pure
      (top16 W) := by
  rw [k0_part26_eq_skeleton]; rfl

end Stretches

/-- What the body stores into its own slot: the sixteen greatest candidates, as one slot. -/
theorem stored_eq (x : Nat → FVec F (Sh 128) .f32) :
    k0_pay673 (F := F)
      (lanes 256) (rowMax (work (cand x) 0)) (rowMax (work (cand x) 1)) (rowMax (work (cand x) 2)) (rowMax (work (cand x) 3))
      (rowMax (work (cand x) 4)) (rowMax (work (cand x) 5)) (rowMax (work (cand x) 6)) (rowMax (work (cand x) 7)) (rowMax (work
      (cand x) 8)) (rowMax (work (cand x) 9)) (rowMax (work (cand x) 10)) (rowMax (work (cand x) 11)) (work (cand x) 12) (rowMax
      (work (cand x) 12)) (fstMask (work (cand x) 12)) =
    shapeCast S1x512x16 (shapeCast S1x512x16 (top16 (cand x)) shapeCasts_S512x16_S1x512x16) shapeCasts_S1x512x16_S1x512x16 := rfl

/-- The four slots read back are laid side by side. -/
theorem gathered_eq (a b c d : FVec F S1x512x16 .f32) : k0_pay674 (F := F) a b c d = work (gathered a b c d) 0 := rfl
/-- The first maximum of the gathered rows. -/
theorem gathered_max (a b c d : FVec F S1x512x16 .f32) : k0_pay675 (F := F) a b c d = rowMax (work (gathered a b c d) 0) := rfl
/-- Where the gathered rows have it. -/
theorem gathered_mask (a b c d : FVec F S1x512x16 .f32) : k0_pay676 (F := F) a b c d = eqMask (work (gathered a b c d) 0) := rfl

end Cert.KernelIdeal.TopK

end
-- ==== Proof.ProtocolIdeal.lean ====
/-
# The exchange protocol of the kernel

Each of the four devices computes its own sixteen largest values per row, stores them in the slot of the shared
scratch buffer that carries its own number, and copies that slot into the same slot of the three other devices.
Before it copies, a device signals the barrier semaphore of the three others and waits for three signals on its own.

This module writes the protocol down as a round schedule. A device's barrier cell has three duties in round 0, one
for each of the other devices; the device that pays duty `j` hands over the slot of ITS scratch buffer that carries
the number of the device signalled, which is the slot that device will copy into. A send cell has one duty, which
returns the share of the own slot the transfer reads from; a receive cell has one duty, which brings the slot the
transfer filled, at its final contents.
-/
module

public import proofs.«01_k».proof.Proof.PartsIdeal
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Ring.Trips
public import Idealize.ShloMosaic.Lib.Tactic

@[expose] public section

noncomputable section

namespace Cert.KernelIdeal.Exchange

open Cert.KernelIdeal Cert.KernelIdeal.Gen Cert.TopK Cert.KernelIdeal.TopK

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The other three devices -/

set_option backward.proofsInPublic true in
/-- The device `j + 1` places further on. -/
def peer (j : Fin 3) (c : Dev nD) : Dev nD := ⟨(c.val + (j.val + 1)) % 4, Nat.mod_lt _ (by decide)⟩
/-- Going on by `j + 1` and then by `opp j + 1` comes back to the start. -/
def opp : Fin 3 → Fin 3 := fun | 0 => 2 | 1 => 1 | 2 => 0

theorem peer_back (j : Fin 3) (c : Dev nD) : peer (opp j) (peer j c) = c := by revert j c; decide
theorem peer_forth (j : Fin 3) (c : Dev nD) : peer j (peer (opp j) c) = c := by revert j c; decide

theorem dev1_eq (c : Dev nD) : (⟨k0_dev1 c, k0_dev1_lt c⟩ : Dev nD) = peer 0 c := Fin.ext (k0_dev1_eq c)
theorem dev2_eq (c : Dev nD) : (⟨k0_dev2 c, k0_dev2_lt c⟩ : Dev nD) = peer 1 c := Fin.ext (k0_dev2_eq c)
theorem dev3_eq (c : Dev nD) : (⟨k0_dev3 c, k0_dev3_lt c⟩ : Dev nD) = peer 2 c := Fin.ext (k0_dev3_eq c)
theorem dev4_eq (c : Dev nD) : (⟨k0_dev4 c, k0_dev4_lt c⟩ : Dev nD) = peer 0 c := Fin.ext (k0_dev4_eq c)
theorem dev5_eq (c : Dev nD) : (⟨k0_dev5 c, k0_dev5_lt c⟩ : Dev nD) = peer 1 c := Fin.ext (k0_dev5_eq c)
theorem dev6_eq (c : Dev nD) : (⟨k0_dev6 c, k0_dev6_lt c⟩ : Dev nD) = peer 2 c := Fin.ext (k0_dev6_eq c)

/-- Going on by `j + 1`, as a permutation of the devices. -/
def turn (j : Fin 3) : Dev nD ≃ Dev nD := ⟨peer j, peer (opp j), peer_back j, peer_forth j⟩

/-! ## The memrefs, the semaphores and the cells -/

abbrev xM : Memref sig .tc .vmem S512x4096 .f32 := Memref.whole cc0_stg0_0
abbrev oM : Memref sig .tc .vmem S512x16 .f32 := Memref.whole cc0_stg1_0
abbrev rM : Memref sig .tc .vmem S4x512x16 .f32 := Memref.whole cc0_scratch0

/-- The slot of the scratch buffer that carries the number `c`, as the transfers name it. -/
abbrev slotM (c : Dev nD) : Memref sig .tc .vmem S512x16 .f32 :=
  ((rM : Memref sig .tc .vmem S4x512x16 .f32).slice (Rect.unit (s := S4x512x16) (k0_off2 c) S1x512x16.size (k0_off2_inb c)) (fun _ => rfl)).squeeze S512x16 squeezes_S1x512x16_S512x16

abbrev barS : Sem sig := (SemArray.scalar (sig.barrier 0 rfl) : Sems sig S_).sem
abbrev sendS : Fin 3 → DmaSem sig := fun
  | 0 => (((cc0_scratch1 : DmaSems sig S3).slice (Rect.unit (s := S3) ![0] S1.size inb_S3_S1_0)).squeeze S_ squeezes_S1_S_).sem
  | 1 => (((cc0_scratch1 : DmaSems sig S3).slice (Rect.unit (s := S3) ![1] S1.size inb_S3_S1_1)).squeeze S_ squeezes_S1_S_).sem
  | 2 => (((cc0_scratch1 : DmaSems sig S3).slice (Rect.unit (s := S3) ![2] S1.size inb_S3_S1_2)).squeeze S_ squeezes_S1_S_).sem
abbrev recvS : Fin 3 → DmaSem sig := fun
  | 0 => (((cc0_scratch2 : DmaSems sig S3).slice (Rect.unit (s := S3) ![0] S1.size inb_S3_S1_0)).squeeze S_ squeezes_S1_S_).sem
  | 1 => (((cc0_scratch2 : DmaSems sig S3).slice (Rect.unit (s := S3) ![1] S1.size inb_S3_S1_1)).squeeze S_ squeezes_S1_S_).sem
  | 2 => (((cc0_scratch2 : DmaSems sig S3).slice (Rect.unit (s := S3) ![2] S1.size inb_S3_S1_2)).squeeze S_ squeezes_S1_S_).sem

/-- A device's seven cells: none is the barrier's, `(false, j)` the `j`-th send, `(true, j)` the `j`-th receive. -/
abbrev CK : Type := Option (Bool × Fin 3)
abbrev osem : Bool × Fin 3 → SemLoc sig := fun | (false, j) => .dma (sendS j) | (true, j) => .dma (recvS j)
abbrev csem : CK → SemLoc sig := fun | none => .reg barS | some k => osem k
abbrev kcell (ck : Dev nD × CK) : GSem nD τ sig := ((ck.1 : Thread nD τ), csem ck.2)

abbrev barCell (c : Dev nD) : GSem nD τ sig := ((c : Thread nD τ), .reg barS)
abbrev sendCell (c : Dev nD) (j : Fin 3) : GSem nD τ sig := ((c : Thread nD τ), .dma (sendS j))
abbrev recvCell (c : Dev nD) (j : Fin 3) : GSem nD τ sig := ((c : Thread nD τ), .dma (recvS j))

/-- The seven, listed. -/
def ckL : List CK := [none, some (false, 0), some (false, 1), some (false, 2), some (true, 0), some (true, 1), some (true, 2)]
/-- Which of the seven a semaphore is, if any. -/
def kind (s : SemLoc sig) : Option CK := ckL.find? fun k => decide (csem k = s)
theorem kind_csem (k : CK) : kind (csem k) = some k := by revert k; decide
theorem kind_bar : kind (.reg barS) = some none := kind_csem none
theorem kind_send (j : Fin 3) : kind (.dma (sendS j)) = some (some (false, j)) := kind_csem (some (false, j))
theorem kind_recv (j : Fin 3) : kind (.dma (recvS j)) = some (some (true, j)) := kind_csem (some (true, j))
theorem csem_inj {k k' : CK} (h : csem k = csem k') : k = k' :=
  Option.some.inj ((kind_csem k).symm.trans ((congrArg kind h).trans (kind_csem k')))

/-- What one slot's transfer credits. -/
abbrev N : ℕ := (slotM 0).view.dmaCredit
theorem N_pos : 0 < N := View.dmaCredit_pos _ (by decide)

/-! ## Contents -/

/-- Device `c`'s staged block of the argument. -/
def xstg (c : Dev nD) : (cc0_stg0_0 : Ref sig .tc).ty.Contents (Elt F) :=
  (win0_0.blk (0 : Fin 1)).view.read (Elt F) (m ((c : Thread nD τ).loc main_arg0))

/-- Device `c`'s sixteen largest values per row. -/
def topAt (c : Dev nD) : FVec F (Sh 16) .f32 := top16 (cand (chunk (k0_pay1 (xstg m c))))
/-- The same in the shape of a slot, as it is stored. -/
def stored (c : Dev nD) : FVec F S1x512x16 .f32 :=
  shapeCast S1x512x16 (shapeCast S1x512x16 (topAt m c) shapeCasts_S512x16_S1x512x16) shapeCasts_S1x512x16_S1x512x16

/-- The place inside a slot that an index of the scratch buffer names. -/
def inSlot (i : S4x512x16.Idx) : S1x512x16.Idx := fun | 0 => ⟨0, by decide⟩ | 1 => i 1 | 2 => i 2
/-- The final contents of the scratch buffer, the same on every device: slot `c` holds device `c`'s values. -/
def G : S4x512x16.Idx → Elt F .f32 := fun i => stored m (i 0) (inSlot i)

/-- What every device's output holds at the end. -/
def outAt : (cc0_stg1_0 : Ref sig .tc).ty.Contents (Elt F) :=
  top16 (gathered (stored m 0) (stored m 1) (stored m 2) (stored m 3))

/-- The elements of slot `s`. -/
def slotSet (s : Dev nD) : Finset S4x512x16.Idx := Finset.univ.filter fun i => (i 0).val = s.val

theorem mem_slotSet {s : Dev nD} {i : S4x512x16.Idx} : i ∈ slotSet s ↔ (i 0).val = s.val := by simp [slotSet]

/-- Device `c`'s slot number `s`, held at share `q` with contents `f`. -/
def slotPts (c s : Dev nD) (q : PosShare TreeShare) (f : Buf (Elt F) ((c : Thread nD τ).loc cc0_scratch0)) : sProp 𝕄 :=
  ((c : Thread nD τ).loc cc0_scratch0) ↦[slotSet s]{q} f

omit [FloatOps F] in
instance slotPts_storable (c s : Dev nD) (q) (f) : BI.Storable (upEmb : UEmb _ 𝕄) (slotPts (F := F) c s q f) := by unfold slotPts; infer_instance

theorem off2_zero (c : Dev nD) : k0_off2 c 0 = c.val := by rw [k0_off2_eq]; rfl

/-- An index lies in slot `c`'s rectangle exactly if its first coordinate is `c`. -/
theorem mem_rect {off : Fin 3 → ℕ} {s : Dev nD} (h : off = ![s.val, 0, 0]) (inb : ∀ a, off a + S1x512x16.size a ≤ S4x512x16.size a) (i : S4x512x16.Idx) :
    i ∈ (Rect.unit (s := S4x512x16) off S1x512x16.size inb).set ↔ i ∈ slotSet s := by
  subst h
  rw [Rect.mem_set_unit, mem_slotSet]
  constructor
  · intro h
    have h0 := h 0
    have h1 : s.val ≤ (i 0).val := h0.1
    have h2 : (i 0).val < s.val + 1 := h0.2
    omega
  · intro h a
    fin_cases a
    · show s.val ≤ (i 0).val ∧ (i 0).val < s.val + 1
      omega
    · exact ⟨Nat.zero_le _, lt_of_lt_of_eq (i 1).isLt (Nat.zero_add _).symm⟩
    · exact ⟨Nat.zero_le _, lt_of_lt_of_eq (i 2).isLt (Nat.zero_add _).symm⟩

theorem rect_set {off : Fin 3 → ℕ} {s : Dev nD} (h : off = ![s.val, 0, 0]) (inb : ∀ a, off a + S1x512x16.size a ≤ S4x512x16.size a) :
    (Rect.unit (s := S4x512x16) off S1x512x16.size inb).set = slotSet s := Finset.ext (mem_rect h inb)

/-- The elements a load or store at slot `s`'s rectangle touches. -/
theorem access_set {off : Fin 3 → ℕ} {s : Dev nD} (h : off = ![s.val, 0, 0]) (inb : ∀ a, off a + S1x512x16.size a ≤ S4x512x16.size a) :
    ((rM : Memref sig .tc .vmem S4x512x16 .f32).access (Rect.unit (s := S4x512x16) off S1x512x16.size inb) : View sig .tc _ _ _).set = slotSet s := by
  show (View.slice (View.whole cc0_scratch0) _).set = _
  rw [View.set_slice_whole]
  exact rect_set h inb

theorem slotM_set (c : Dev nD) : (slotM c).view.set = slotSet c := by
  show ((View.slice (View.whole cc0_scratch0) _).reshape _ _).set = _
  rw [View.set_reshape, View.set_slice_whole]
  exact rect_set (k0_off2_eq c) _

/-- At an index the slot's rectangle reaches, the final contents are that slot's values. -/
theorem G_at {off : Fin 3 → ℕ} {s : Dev nD} (h : off = ![s.val, 0, 0]) (inb : ∀ a, off a + S1x512x16.size a ≤ S4x512x16.size a)
    (x : S1x512x16.Idx) : G m ((Rect.unit (s := S4x512x16) off S1x512x16.size inb).emb x) = stored m s x := by
  subst h
  have h0 : ((Rect.unit (s := S4x512x16) ![s.val, 0, 0] S1x512x16.size inb).emb x) 0 = s := Fin.ext (by
    rw [ValueKit.rect_emb_unit_val]
    have : (x 0).val < 1 := (x 0).isLt
    show s.val + (x 0).val = s.val
    omega)
  have h1 : inSlot ((Rect.unit (s := S4x512x16) ![s.val, 0, 0] S1x512x16.size inb).emb x) = x := funext fun a => Fin.ext (by
    fin_cases a
    · have : (x 0).val < 1 := (x 0).isLt
      show 0 = (x 0).val
      omega
    · show (((Rect.unit (s := S4x512x16) ![s.val, 0, 0] S1x512x16.size inb).emb x) 1).val = _
      rw [ValueKit.rect_emb_unit_val]
      exact Nat.zero_add _
    · show (((Rect.unit (s := S4x512x16) ![s.val, 0, 0] S1x512x16.size inb).emb x) 2).val = _
      rw [ValueKit.rect_emb_unit_val]
      exact Nat.zero_add _)
  unfold G
  rw [h0, h1]

/-- The store of a device's own values makes its own slot hold the final contents. -/
theorem write_slot {off : Fin 3 → ℕ} {s : Dev nD} (h : off = ![s.val, 0, 0]) (inb : ∀ a, off a + S1x512x16.size a ≤ S4x512x16.size a)
    (f : S4x512x16.Idx → Elt F .f32) (i : S4x512x16.Idx) (hi : i ∈ slotSet s) :
    ((rM : Memref sig .tc .vmem S4x512x16 .f32).access (Rect.unit (s := S4x512x16) off S1x512x16.size inb) : View sig .tc _ _ _).write (Elt F) f (stored m s) Finset.univ i
      = G m i := by
  rw [← access_set h inb] at hi
  obtain ⟨x, -, rfl⟩ := Finset.mem_map.mp hi
  exact (View.write_emb_of_mem (v := (rM : Memref sig .tc .vmem S4x512x16 .f32).access (Rect.unit (s := S4x512x16) off S1x512x16.size inb)) (Val := Elt F) f (stored m s)
    (Finset.mem_univ x)).trans (G_at m h inb x).symm

/-- The transfer of a slot at the final contents makes the peer's slot hold them. -/
theorem write_landed (c : Dev nD) (fd fs : S4x512x16.Idx → Elt F .f32) (i : S4x512x16.Idx) (hi : i ∈ slotSet c) :
    (slotM c).view.write (Elt F) fd ((slotM c).view.read (Elt F) fs) Finset.univ i = fs i := by
  rw [← slotM_set] at hi
  obtain ⟨x, -, rfl⟩ := Finset.mem_map.mp hi
  exact (View.write_emb_of_mem (v := (slotM c).view) (Val := Elt F) fd _ (Finset.mem_univ x)).trans rfl

/-- Reading a slot of the final contents. -/
theorem read_slot {off : Fin 3 → ℕ} {s : Dev nD} (h : off = ![s.val, 0, 0]) (inb : ∀ a, off a + S1x512x16.size a ≤ S4x512x16.size a) :
    (rM : Memref sig .tc .vmem S4x512x16 .f32).view.readAt (Elt F) (Rect.unit (s := S4x512x16) off S1x512x16.size inb).toLoadRect (G m) = stored m s :=
  funext fun x => (G_at m h inb x)

theorem perm_list (c : Dev nD) : [c, peer 0 c, peer 1 c, peer 2 c].Nodup := by revert c; decide
theorem perm_all (c : Dev nD) : (Finset.univ : Finset (Dev nD)) = [c, peer 0 c, peer 1 c, peer 2 c].toFinset := by revert c; decide

omit [FloatOps F] in
/-- The whole scratch buffer is its four slots. -/
theorem slots_split (c : Dev nD) (f : Buf (Elt F) ((c : Thread nD τ).loc cc0_scratch0)) :
    (((c : Thread nD τ).loc cc0_scratch0) ↦{fullShare} f : sProp 𝕄)
      = iprop(slotPts c c fullShare f ∗ slotPts c (peer 0 c) fullShare f ∗ slotPts c (peer 1 c) fullShare f ∗ slotPts c (peer 2 c) fullShare f) := by
  have hU : (Finset.univ : Finset (Idx ((c : Thread nD τ).loc cc0_scratch0))) = (Finset.univ : Finset (Dev nD)).biUnion slotSet :=
    (Finset.eq_univ_iff_forall.mpr fun i => Finset.mem_biUnion.mpr ⟨i 0, Finset.mem_univ _, mem_slotSet.mpr rfl⟩).symm
  have hD : ∀ t ∈ (Finset.univ : Finset (Dev nD)), ∀ t' ∈ (Finset.univ : Finset (Dev nD)), t ≠ t' → Disjoint (slotSet t) (slotSet t') :=
    fun t _ t' _ hne => Finset.disjoint_left.mpr fun i h h' => hne (Fin.ext ((mem_slotSet.mp h).symm.trans (mem_slotSet.mp h')))
  have h := pointsTo_biUnion (Ix := Unit) (Name := ℕ) (U := UU) (Lvl := ℕ) (ℓ := ((c : Thread nD τ).loc cc0_scratch0)) (q := fullShare) (f := f)
    (Finset.univ : Finset (Dev nD)) slotSet hD
  rw [← hU] at h
  rw [h, bigSep_univ_eq_bigSepL [c, peer 0 c, peer 1 c, peer 2 c] (perm_all c) (perm_list c)]
  rfl

/-! ## The schedule -/

/-- What duty `j` of device `c`'s barrier cell hands over: the slot number `c` of the device that pays it. -/
def barPay (c : Dev nD) (j : Fin 3) : sProp 𝕄 := iprop(∃ f, slotPts (peer (opp j) c) c fullShare f)
/-- What the `j`-th transfer out of device `c` returns: the share of its own slot it read. -/
def sendPay (c : Dev nD) (j : Fin 3) : sProp 𝕄 := slotPts c c (Ring.shares3 fullShare j) (G m)
/-- What the `j`-th transfer into device `c` brings: the slot of the device it comes from, filled. -/
def recvPay (c : Dev nD) (j : Fin 3) : sProp 𝕄 := slotPts c (peer (opp j) c) fullShare (G m)

/-- One round: a barrier cell has three duties of one unit each, a send or receive cell the one duty of a slot's credit. -/
def ringRd : Rounds.Schedule (GSem nD τ sig) (Fin 3) 𝕄 where
  duties g r := if r = 0 ∧ g.1.2 = .tc then (match kind g.2 with | some none => Finset.univ | some (some _) => {0} | none => ∅) else ∅
  unitless _ := False
  amount g _ _ := match kind g.2 with | some none => 1 | _ => N
  payload g _ d := match kind g.2 with
    | some none => barPay g.1.1 d
    | some (some (false, j)) => sendPay m g.1.1 j
    | some (some (true, j)) => recvPay m g.1.1 j
    | none => iprop(emp)
  amount_pos g _ _ _ := by
    split
    · exact Nat.one_pos
    · exact N_pos

instance ringRd_payload_storable (g : GSem nD τ sig) (r : ℕ) (d : Fin 3) :
    BI.Storable (upEmb : UEmb _ 𝕄) ((ringRd (F := F) m).payload g r d) := by
  unfold ringRd
  dsimp only
  unfold barPay sendPay recvPay
  split <;> infer_instance

section Sched
variable (c : Dev nD) (j : Fin 3)

theorem duties_bar : (ringRd (F := F) m).duties (barCell c) 0 = Finset.univ := by
  dsimp only [ringRd]; rw [if_pos ⟨rfl, rfl⟩, kind_bar]
theorem duties_send : (ringRd (F := F) m).duties (sendCell c j) 0 = {0} := by
  dsimp only [ringRd]; rw [if_pos ⟨rfl, rfl⟩, kind_send]
theorem duties_recv : (ringRd (F := F) m).duties (recvCell c j) 0 = {0} := by
  dsimp only [ringRd]; rw [if_pos ⟨rfl, rfl⟩, kind_recv]
theorem duties_later (g : GSem nD τ sig) : ∀ r, 1 ≤ r → (ringRd (F := F) m).duties g r = ∅ :=
  fun r hr => by dsimp only [ringRd]; rw [if_neg fun h => by omega]

theorem amount_bar (d : Fin 3) : (ringRd (F := F) m).amount (barCell c) 0 d = 1 := by dsimp only [ringRd]; rw [kind_bar]
theorem amount_send (d : Fin 3) : (ringRd (F := F) m).amount (sendCell c j) 0 d = N := by dsimp only [ringRd]; rw [kind_send]
theorem amount_recv (d : Fin 3) : (ringRd (F := F) m).amount (recvCell c j) 0 d = N := by dsimp only [ringRd]; rw [kind_recv]

theorem expect_bar : (ringRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (ringRd (F := F) m).expect (sendCell c j) 0 = N := by
  unfold Schedule.expect Schedule.amountOf; rw [duties_send, Finset.sum_singleton, amount_send]
theorem expect_recv : (ringRd (F := F) m).expect (recvCell c j) 0 = N := by
  unfold Schedule.expect Schedule.amountOf; rw [duties_recv, Finset.sum_singleton, amount_recv]

theorem payload_bar (d : Fin 3) : (ringRd (F := F) m).payload (barCell c) 0 d = barPay c d := by dsimp only [ringRd]; rw [kind_bar]
theorem payload_send (d : Fin 3) : (ringRd (F := F) m).payload (sendCell c j) 0 d = sendPay m c j := by dsimp only [ringRd]; rw [kind_send]
theorem payload_recv (d : Fin 3) : (ringRd (F := F) m).payload (recvCell c j) 0 d = recvPay m c j := by dsimp only [ringRd]; rw [kind_recv]

/-- The whole of the barrier cell's round: the slots of the three others. -/
theorem rest_bar : bigSep ((ringRd (F := F) m).duties (barCell c) 0 \ ∅) (fun d => (ringRd (F := F) m).payload (barCell c) 0 d)
    = iprop(barPay c 0 ∗ barPay c 1 ∗ barPay c 2) := by
  rw [Finset.sdiff_empty, duties_bar, bigSep_congr (fun d _ => payload_bar m c d), bigSep_univ_eq_bigSepL [0, 1, 2] (by decide) (by decide)]
  rfl
theorem rest_send : bigSep ((ringRd (F := F) m).duties (sendCell c j) 0 \ ∅) (fun d => (ringRd (F := F) m).payload (sendCell c j) 0 d) = sendPay m c j := by
  rw [Finset.sdiff_empty, duties_send, bigSep_singleton, payload_send]
theorem rest_recv : bigSep ((ringRd (F := F) m).duties (recvCell c j) 0 \ ∅) (fun d => (ringRd (F := F) m).payload (recvCell c j) 0 d) = recvPay m c j := by
  rw [Finset.sdiff_empty, duties_recv, bigSep_singleton, payload_recv]

end Sched

/-! ## What each device owes at launch; the levels -/

/-- The credit of device `c`'s `j`-th transfer. -/
abbrev oweR (c : Dev nD) (j : Fin 3) : CellTallies nD τ sig Unit := tallyAt (recvCell (peer j c) j) () N
/-- The unit of device `c`'s `j`-th signal. -/
abbrev oweB (c : Dev nD) (j : Fin 3) : CellTallies nD τ sig Unit := tallyAt (barCell (peer j c)) () 1

/-- The three transfers' credit, the first transfer's last so that it is paid first. -/
abbrev OR (c : Dev nD) : CellTallies nD τ sig Unit := oweR c 2 + oweR c 1 + oweR c 0
/-- All that device `c` owes, the first signal's unit last so that it is paid first. -/
def O₀ (c : Dev nD) : CellTallies nD τ sig Unit := OR c + oweB c 2 + oweB c 1 + oweB c 0

def L (g : GSem nD τ sig) : Finset Unit := if g.1.2 = .tc then {()} else ∅
/-- Barrier cells at 1, receive cells at 2, everything else at 0. -/
def lv (g : GSem nD τ sig) (_ : Unit) : ℕ := match kind g.2 with | some none => 1 | some (some (true, _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [kind_bar]
theorem lv_recv (c : Dev nD) (j : Fin 3) (u : Unit) : lv (recvCell c j) u = 2 := by dsimp only [lv]; rw [kind_recv]

theorem tally_pos {g' g : GSem nD τ sig} {u : Unit} {n : ℕ} (h : ¬ g = g') : (tallyAt g' () n : CellTallies nD τ sig Unit) g u = 0 := by
  rw [tallyAt_apply, if_neg fun h' => h h'.1]

theorem OR_pos {c : Dev nD} {g : GSem nD τ sig} {u : Unit} (h : 0 < OR c g u) : ∃ j, g = recvCell (peer j c) j := by
  by_contra hn
  rw [not_exists] at hn
  dsimp only [OR] at h
  simp only [Pi.add_apply, Finsupp.add_apply] at h
  rw [tally_pos (hn 2), tally_pos (hn 1), tally_pos (hn 0)] at h
  exact Nat.lt_irrefl 0 h

theorem O₀_pos {c : Dev nD} {g : GSem nD τ sig} {u : Unit} (h : 0 < O₀ c g u) :
    (∃ j, g = recvCell (peer j c) j) ∨ ∃ j, g = barCell (peer j c) := by
  by_contra hn
  rw [not_or, not_exists, not_exists] at hn
  dsimp only [O₀, OR] at h
  simp only [Pi.add_apply, Finsupp.add_apply] at h
  rw [tally_pos (hn.1 2), tally_pos (hn.1 1), tally_pos (hn.1 0), tally_pos (hn.2 2), tally_pos (hn.2 1), tally_pos (hn.2 0)] at h
  exact Nat.lt_irrefl 0 h

omit [FloatOps F] in
theorem mayWait_stage (c : Dev nD) (q : DmaSem sig) (hq : kind (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; dsimp only [lv]; rw [hq])
      (fun g u hg => by
        rcases O₀_pos hg with ⟨j, rfl⟩ | ⟨j, rfl⟩
        · rw [lv_recv]; decide
        · rw [lv_bar]; decide)
  · rw [MayWait_zero]; iintro -; iempintro

omit [FloatOps F] in
/-- At its barrier wait a device owes receive credits only, above its barrier cell. -/
theorem mayWait_bar (c : Dev nD) : (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨j, rfl⟩ := OR_pos hg; exact Finset.mem_singleton_self _)
    (fun p hp => by rw [Finset.mem_singleton.mp hp]; exact le_of_eq (lv_bar c _))
    (fun g u hg => by obtain ⟨j, rfl⟩ := OR_pos hg; rw [lv_recv]; decide)

/-! ## What a device starts from -/

/-- Every cell's invariant under the names `K`, and that every cell has reached round 0. -/
def records (K : Dev nD × CK → ℕ) : sProp 𝕄 :=
  iprop((bigSep Finset.univ fun ck : Dev nD × CK => cellInv ER (ringRd m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) : records m K ⊢ (cellInv ER (ringRd m) (K ck) (kcell ck) : sProp 𝕄) := by
  have h : (bigSep Finset.univ fun ck : Dev nD × CK => (cellInv ER (ringRd m) (K ck) (kcell ck) : sProp 𝕄)) ⊢ cellInv ER (ringRd m) (K ck) (kcell ck) :=
    bigSep_elim (Finset.mem_univ ck)
  unfold records
  iintro ⟨#HI, -⟩
  iapply h
  iexact HI
theorem reached_at (K : Dev nD × CK → ℕ) (ck : Dev nD × CK) : records m K ⊢ (reached ER (kcell ck) 0 : sProp 𝕄) := by
  have h : (bigSep Finset.univ fun ck : Dev nD × CK => (reached ER (kcell ck) 0 : sProp 𝕄)) ⊢ reached ER (kcell ck) 0 :=
    bigSep_elim (Finset.mem_univ ck)
  unfold records
  iintro ⟨-, #HR⟩
  iapply h
  iexact HR

/-- The positions at round 0 of a device's own seven cells. -/
def posns (c : Dev nD) : sProp 𝕄 :=
  iprop(atPos ER (barCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)
/-- The tokens of the duties a device pays. -/
def payToks (c : Dev nD) : sProp 𝕄 :=
  iprop(dutyTok ER (barCell (peer 0 c)) 0 (0 : Fin 3) ∗ dutyTok ER (barCell (peer 1 c)) 0 (1 : Fin 3) ∗ dutyTok ER (barCell (peer 2 c)) 0 (2 : Fin 3)
    ∗ dutyTok ER (sendCell c 0) 0 (0 : Fin 3) ∗ dutyTok ER (sendCell c 1) 0 (0 : Fin 3) ∗ dutyTok ER (sendCell c 2) 0 (0 : Fin 3)
    ∗ dutyTok ER (recvCell (peer 0 c) 0) 0 (0 : Fin 3) ∗ dutyTok ER (recvCell (peer 1 c) 1) 0 (0 : Fin 3) ∗ dutyTok ER (recvCell (peer 2 c) 2) 0 (0 : Fin 3))

def ghost (K : Dev nD × CK → ℕ) (c : Dev nD) : sProp 𝕄 := iprop(records m K ∗ posns c ∗ payToks c)

/-- The credit a device starts with: its barrier's three units and its three receive cells' credit. -/
def creds0 (c : Dev nD) : sProp 𝕄 :=
  iprop(cred (tallyAt (barCell c) () 3) ∗ cred (tallyAt (recvCell c 0) () N) ∗ cred (tallyAt (recvCell c 1) () N) ∗ cred (tallyAt (recvCell c 2) () N))

def start (c : Dev nD) : sProp 𝕄 := iprop((∃ K, ghost m K c) ∗ creds0 c ∗ levAts L lv)

def Φ₀ (c : Dev nD) : sProp 𝕄 :=
  iprop(start m c ∗ ∃ f : Buf (Elt F) ((c : Thread nD τ).loc cc0_scratch0), ((c : Thread nD τ).loc cc0_scratch0) ↦{fullShare} f)

/-- The seven cells closed: every counter at zero. -/
def zeros (c : Dev nD) : sProp 𝕄 :=
  iprop((semVal (sendCell c 0) 0 ∗ semVal (sendCell c 1) 0 ∗ semVal (sendCell c 2) 0
    ∗ semVal (recvCell c 0) 0 ∗ semVal (recvCell c 1) 0 ∗ semVal (recvCell c 2) 0) ∗ semVal (barCell c) 0)

/-- After the body: the scratch buffer at its final contents and the cells closed. -/
def Φ₁ (c : Dev nD) : sProp 𝕄 :=
  iprop((((c : Thread nD τ).loc cc0_scratch0) ↦{fullShare} (G m : Buf (Elt F) ((c : Thread nD τ).loc cc0_scratch0))) ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.Exchange

end
-- ==== Proof.BodyIdeal.lean ====
/-
# The printed kernel body, written short

The body's pure stretches replaced by the values of Values.lean they compute: what remains is the body's memory and
semaphore operations in program order.
-/
module

public import proofs.«01_k».proof.Proof.ProtocolIdeal

@[expose] public section

set_option maxRecDepth 65536

noncomputable section

namespace Cert.KernelIdeal.Exchange

open Cert.KernelIdeal Cert.KernelIdeal.Gen Cert.TopK Cert.KernelIdeal.TopK
open Idealize.ShloMosaic
open Idealize.ShloMosaic.TcCoe
open Idealize.SL.Sem

variable {F : FTy → Type} [FloatOps F]

/-- The chunks the body slices off its block. -/
theorem pays : ∀ v : Vec F S512x4096 .f32, k0_pay2 (F := F) v = chunk (k0_pay1 v) 0
      ∧ k0_pay3 (F := F) v = chunk (k0_pay1 v) 1
      ∧ k0_pay4 (F := F) v = chunk (k0_pay1 v) 2
      ∧ k0_pay5 (F := F) v = chunk (k0_pay1 v) 3
      ∧ k0_pay6 (F := F) v = chunk (k0_pay1 v) 4
      ∧ k0_pay7 (F := F) v = chunk (k0_pay1 v) 5
      ∧ k0_pay8 (F := F) v = chunk (k0_pay1 v) 6
      ∧ k0_pay9 (F := F) v = chunk (k0_pay1 v) 7
      ∧ k0_pay10 (F := F) v = chunk (k0_pay1 v) 8
      ∧ k0_pay11 (F := F) v = chunk (k0_pay1 v) 9
      ∧ k0_pay12 (F := F) v = chunk (k0_pay1 v) 10
      ∧ k0_pay13 (F := F) v = chunk (k0_pay1 v) 11
      ∧ k0_pay14 (F := F) v = chunk (k0_pay1 v) 12
      ∧ k0_pay15 (F := F) v = chunk (k0_pay1 v) 13
      ∧ k0_pay16 (F := F) v = chunk (k0_pay1 v) 14
      ∧ k0_pay17 (F := F) v = chunk (k0_pay1 v) 15
      ∧ k0_pay18 (F := F) v = chunk (k0_pay1 v) 16
      ∧ k0_pay19 (F := F) v = chunk (k0_pay1 v) 17
      ∧ k0_pay20 (F := F) v = chunk (k0_pay1 v) 18 :=
  fun v => ⟨rfl, rfl, rfl, rfl, rfl, rfl, rfl, rfl, rfl, rfl, rfl, rfl, rfl, rfl, rfl, rfl, rfl, rfl, rfl⟩
/-- The gathered rows are those of the four slots. -/
theorem gathered_rows (a b c d : FVec F S1x512x16 .f32) : k0_pay674 (F := F) a b c d = gathered a b c d := rfl
theorem gathered_rows_mask (a b c d : FVec F S1x512x16 .f32) : k0_pay676 (F := F) a b c d = eqMask (work (gathered a b c d) 0) := rfl
theorem gathered_rows_max (a b c d : FVec F S1x512x16 .f32) : k0_pay675 (F := F) a b c d = rowMax (work (gathered a b c d) 0) := rfl
theorem lanes64_eq : (iota .tc S512x64 32 [1] iota_S512x64_d1_w32 : IVec S512x64 32) = lanes 64 := rfl

/-- The kernel body's operations over the values they read. -/
def exec (arg0 : Memref sig .tc .vmem S512x4096 .f32) (arg1 : Memref sig .tc .vmem S512x16 .f32)
    (arg2 : Memref sig .tc .vmem S4x512x16 .f32) (arg3 : DmaSems sig S3) (arg4 : DmaSems sig S3) :
    Prog (TpuEff nD τ sig (Elt F) Λ₀ .tc) PUnit := do
  let d0 : Dev nD ← Prog.lift .deviceId
  let v3 : Sems sig S_ := SemArray.scalar (sig.barrier 0 rfl)
  semSignalWord (⟨k0_dev1 d0, k0_dev1_lt d0⟩ : Dev nD) v3.sem 1#32
  semSignalWord (⟨k0_dev2 d0, k0_dev2_lt d0⟩ : Dev nD) v3.sem 1#32
  semSignalWord (⟨k0_dev3 d0, k0_dev3_lt d0⟩ : Dev nD) v3.sem 1#32
  let v16 : Vec F S512x4096 .f32 ← Prog.lift (.load arg0 (Rect.unit (s := S512x4096) ![0, 0] S512x4096.size inb_S512x4096_S512x4096_0_0).toLoadRect (View.loadsAt_vmem h_S512x4096))
  let _v : Vec F S1x512x16 .f32 ← Prog.lift (.load arg2 (Rect.unit (s := S4x512x16) (k0_off1 d0) S1x512x16.size (k0_off1_inb d0)).toLoadRect (View.loadsAt_vmem h_S1x512x16))
  Prog.lift (.store arg2 (Rect.unit (s := S4x512x16) (k0_off1 d0) S1x512x16.size (k0_off1_inb d0))
    (shapeCast S1x512x16 (shapeCast S1x512x16 (top16 (cand (chunk (k0_pay1 v16)))) shapeCasts_S512x16_S1x512x16) shapeCasts_S1x512x16_S1x512x16)
    Finset.univ (View.stores_vmem_bits_univ h_S1x512x16 rfl) (.inl rfl))
  semWaitWord v3.sem 3#32
  let slot : Memref sig .tc .vmem S512x16 .f32 :=
    (arg2.slice (Rect.unit (s := S4x512x16) (k0_off2 d0) S1x512x16.size (k0_off2_inb d0)) (fun _ => rfl)).squeeze S512x16 squeezes_S1x512x16_S512x16
  let send0 := ((arg3.slice (Rect.unit (s := S3) ![0] S1.size inb_S3_S1_0)).squeeze S_ squeezes_S1_S_).sem
  let send1 := ((arg3.slice (Rect.unit (s := S3) ![1] S1.size inb_S3_S1_1)).squeeze S_ squeezes_S1_S_).sem
  let send2 := ((arg3.slice (Rect.unit (s := S3) ![2] S1.size inb_S3_S1_2)).squeeze S_ squeezes_S1_S_).sem
  let recv0 := ((arg4.slice (Rect.unit (s := S3) ![0] S1.size inb_S3_S1_0)).squeeze S_ squeezes_S1_S_).sem
  let recv1 := ((arg4.slice (Rect.unit (s := S3) ![1] S1.size inb_S3_S1_1)).squeeze S_ squeezes_S1_S_).sem
  let recv2 := ((arg4.slice (Rect.unit (s := S3) ![2] S1.size inb_S3_S1_2)).squeeze S_ squeezes_S1_S_).sem
  Prog.lift (.enqueueDma slot (.remote (Dev.tc (⟨k0_dev4 d0, k0_dev4_lt d0⟩ : Dev nD)) slot (.dma send0)) (.dma recv0) ((View.wordExact_bits rfl).reshape _ _) ((View.wordExact_bits rfl).reshape _ _) ⟨⟨rfl, Or.inl rfl⟩, trivial⟩)
  Prog.lift (.enqueueDma slot (.remote (Dev.tc (⟨k0_dev5 d0, k0_dev5_lt d0⟩ : Dev nD)) slot (.dma send1)) (.dma recv1) ((View.wordExact_bits rfl).reshape _ _) ((View.wordExact_bits rfl).reshape _ _) ⟨⟨rfl, Or.inl rfl⟩, trivial⟩)
  Prog.lift (.enqueueDma slot (.remote (Dev.tc (⟨k0_dev6 d0, k0_dev6_lt d0⟩ : Dev nD)) slot (.dma send2)) (.dma recv2) ((View.wordExact_bits rfl).reshape _ _) ((View.wordExact_bits rfl).reshape _ _) ⟨⟨rfl, Or.inl rfl⟩, trivial⟩)
  Prog.lift (.waitDma2 send0 slot slot ((View.wordExact_bits rfl).reshape _ _) ((View.wordExact_bits rfl).reshape _ _))
  Prog.lift (.waitDma2 recv0 slot slot ((View.wordExact_bits rfl).reshape _ _) ((View.wordExact_bits rfl).reshape _ _))
  Prog.lift (.waitDma2 send1 slot slot ((View.wordExact_bits rfl).reshape _ _) ((View.wordExact_bits rfl).reshape _ _))
  Prog.lift (.waitDma2 recv1 slot slot ((View.wordExact_bits rfl).reshape _ _) ((View.wordExact_bits rfl).reshape _ _))
  Prog.lift (.waitDma2 send2 slot slot ((View.wordExact_bits rfl).reshape _ _) ((View.wordExact_bits rfl).reshape _ _))
  Prog.lift (.waitDma2 recv2 slot slot ((View.wordExact_bits rfl).reshape _ _) ((View.wordExact_bits rfl).reshape _ _))
  let a : Vec F S1x512x16 .f32 ← Prog.lift (.load arg2 (Rect.unit (s := S4x512x16) ![0, 0, 0] S1x512x16.size inb_S4x512x16_S1x512x16_0_0_0).toLoadRect (View.loadsAt_vmem h_S1x512x16))
  let b : Vec F S1x512x16 .f32 ← Prog.lift (.load arg2 (Rect.unit (s := S4x512x16) ![1, 0, 0] S1x512x16.size inb_S4x512x16_S1x512x16_1_0_0).toLoadRect (View.loadsAt_vmem h_S1x512x16))
  let c : Vec F S1x512x16 .f32 ← Prog.lift (.load arg2 (Rect.unit (s := S4x512x16) ![2, 0, 0] S1x512x16.size inb_S4x512x16_S1x512x16_2_0_0).toLoadRect (View.loadsAt_vmem h_S1x512x16))
  let d : Vec F S1x512x16 .f32 ← Prog.lift (.load arg2 (Rect.unit (s := S4x512x16) ![3, 0, 0] S1x512x16.size inb_S4x512x16_S1x512x16_3_0_0).toLoadRect (View.loadsAt_vmem h_S1x512x16))
  let _v : Vec F S512x16 .f32 ← Prog.lift (.load arg1 (Rect.unit (s := S512x16) ![0, 0] S512x16.size inb_S512x16_S512x16_0_0).toLoadRect (View.loadsAt_vmem h_S512x16))
  Prog.lift (.store arg1 (Rect.unit (s := S512x16) ![0, 0] S512x16.size inb_S512x16_S512x16_0_0) (top16 (gathered a b c d)) Finset.univ (View.stores_vmem_bits_univ h_S512x16 rfl) (.inl rfl))
  pure ⟨⟩

/-- A program that returns at once hands its value on. -/
theorem of_pure {E : Type → Type} {α β : Type} {p : Prog E α} {a : α} {k : α → Prog E β} {r : Prog E β} (h : p = pure a) (h' : k a = r) : p >>= k = r := by
  subst h; exact h'
/-- A program may be replaced by an equal one before what follows it. -/
theorem of_eq {E : Type → Type} {α β : Type} {p q : Prog E α} {k : α → Prog E β} {r : Prog E β} (h : p = q) (h' : q >>= k = r) : p >>= k = r := by
  subst h; exact h'

/-- The stretch that stores a device's own values and waits for the others' signals. -/
theorem store_part (arg0 : Memref sig .tc .vmem S512x4096 .f32) (harg0 : arg0.IsWhole) (arg1 : Memref sig .tc .vmem S512x16 .f32) (harg1 : arg1.IsWhole)
    (arg2 : Memref sig .tc .vmem S4x512x16 .f32) (harg2 : arg2.IsWhole) (arg3 : DmaSems sig S3) (arg4 : DmaSems sig S3)
    (d0 : Dev nD) (v2 : BitVec 32) (v3 : Sems sig S_) (x : Nat → FVec F (Sh 128) .f32) :
    k0_part19 (F := F) arg0 harg0 arg1 harg1 arg2 harg2 arg3 arg4 d0 v2 v3
      (lanes 256) (rowMax (work (cand x) 0)) (rowMax (work (cand x) 1)) (rowMax (work (cand x) 2)) (rowMax (work (cand x) 3))
      (rowMax (work (cand x) 4)) (rowMax (work (cand x) 5)) (rowMax (work (cand x) 6)) (rowMax (work (cand x) 7))
      (rowMax (work (cand x) 8)) (rowMax (work (cand x) 9)) (rowMax (work (cand x) 10)) (rowMax (work (cand x) 11))
      (work (cand x) 12) (rowMax (work (cand x) 12)) (fstMask (work (cand x) 12)) =
    (do
      let _v : Vec F S1x512x16 .f32 ← Prog.lift (.load arg2 (Rect.unit (s := S4x512x16) (k0_off1 d0) S1x512x16.size (k0_off1_inb d0)).toLoadRect (View.loadsAt_vmem h_S1x512x16))
      Prog.lift (.store arg2 (Rect.unit (s := S4x512x16) (k0_off1 d0) S1x512x16.size (k0_off1_inb d0))
        (shapeCast S1x512x16 (shapeCast S1x512x16 (top16 (cand x)) shapeCasts_S512x16_S1x512x16) shapeCasts_S1x512x16_S1x512x16)
        Finset.univ (View.stores_vmem_bits_univ h_S1x512x16 rfl) (.inl rfl))
      semWaitWord v3.sem 3#32
      pure (Scalar.remsi (Scalar.addi v2 1#32) 4#32)) := by
  rw [k0_part19_eq_skeleton]
  unfold k0_part19_skel
  rw [stored_eq]

/-- The printed body is those operations. -/
theorem body_eq (arg0 : Memref sig .tc .vmem S512x4096 .f32) (harg0 : arg0.IsWhole) (arg1 : Memref sig .tc .vmem S512x16 .f32) (harg1 : arg1.IsWhole)
    (arg2 : Memref sig .tc .vmem S4x512x16 .f32) (harg2 : arg2.IsWhole) (arg3 : DmaSems sig S3) (arg4 : DmaSems sig S3) :
    cc0_body (F := F) arg0 harg0 arg1 harg1 arg2 harg2 arg3 arg4 = exec arg0 arg1 arg2 arg3 arg4 := by
  rw [cc0_body_eq_skeleton]
  unfold cc0_body_skel exec
  rw [k0_part1_eq_skeleton]
  unfold k0_part1_skel
  simp only [semSignalWord, semWaitWord, Prog.lift, Prog.bind_op, Prog.bind_ret, Prog.pure_eq_ret]
  refine congrArg (Prog.op _) (funext fun d0 => ?_)
  refine congrArg (Prog.op _) (funext fun _ => ?_)
  refine congrArg (Prog.op _) (funext fun _ => ?_)
  refine congrArg (Prog.op _) (funext fun _ => ?_)
  refine congrArg (Prog.op _) (funext fun v16 => ?_)
  simp only [pays]
  refine of_pure (part2 arg0 harg0 arg1 harg1 arg2 harg2 arg3 arg4 (k0_pay1 v16)) ?_
  refine of_pure (part3 arg0 harg0 arg1 harg1 arg2 harg2 arg3 arg4 (chunk (k0_pay1 v16))) ?_
  refine of_pure (part4 arg0 harg0 arg1 harg1 arg2 harg2 arg3 arg4 (chunk (k0_pay1 v16))) ?_
  refine of_pure (part5 arg0 harg0 arg1 harg1 arg2 harg2 arg3 arg4 (chunk (k0_pay1 v16))) ?_
  refine of_pure (part6 arg0 harg0 arg1 harg1 arg2 harg2 arg3 arg4 (chunk (k0_pay1 v16))) ?_
  refine of_pure (part7 arg0 harg0 arg1 harg1 arg2 harg2 arg3 arg4 (chunk (k0_pay1 v16))) ?_
  refine of_pure (part8 arg0 harg0 arg1 harg1 arg2 harg2 arg3 arg4 (chunk (k0_pay1 v16))) ?_
  refine of_pure (part9 arg0 harg0 arg1 harg1 arg2 harg2 arg3 arg4 (chunk (k0_pay1 v16))) ?_
  refine of_pure (part10 arg0 harg0 arg1 harg1 arg2 harg2 arg3 arg4 (chunk (k0_pay1 v16))) ?_
  refine of_pure (part11 arg0 harg0 arg1 harg1 arg2 harg2 arg3 arg4 (chunk (k0_pay1 v16))) ?_
  refine of_pure (part12 arg0 harg0 arg1 harg1 arg2 harg2 arg3 arg4 (chunk (k0_pay1 v16))) ?_
  refine of_pure (part13 arg0 harg0 arg1 harg1 arg2 harg2 arg3 arg4 (chunk (k0_pay1 v16))) ?_
  refine of_pure (part14 arg0 harg0 arg1 harg1 arg2 harg2 arg3 arg4 (chunk (k0_pay1 v16))) ?_
  refine of_pure (part15 arg0 harg0 arg1 harg1 arg2 harg2 arg3 arg4 (chunk (k0_pay1 v16))) ?_
  dsimp only
  refine of_pure (part16 arg0 harg0 arg1 harg1 arg2 harg2 arg3 arg4 (chunk (k0_pay1 v16))) ?_
  dsimp only
  refine of_pure (part17 arg0 harg0 arg1 harg1 arg2 harg2 arg3 arg4 (chunk (k0_pay1 v16))) ?_
  dsimp only
  refine of_pure (part18 arg0 harg0 arg1 harg1 arg2 harg2 arg3 arg4 (chunk (k0_pay1 v16))) ?_
  dsimp only
  refine of_eq (store_part arg0 harg0 arg1 harg1 arg2 harg2 arg3 arg4 d0 _ _ (chunk (k0_pay1 v16))) ?_
  simp only [semWaitWord, Prog.lift, Prog.bind_op, Prog.bind_ret, Prog.pure_eq_ret]
  refine congrArg (Prog.op _) (funext fun _ => ?_)
  refine congrArg (Prog.op _) (funext fun _ => ?_)
  refine congrArg (Prog.op _) (funext fun _ => ?_)
  rw [k0_part20_eq_skeleton]
  unfold k0_part20_skel
  simp only [semWaitWord, Prog.lift, Prog.bind_op, Prog.bind_ret, Prog.pure_eq_ret]
  refine congrArg (Prog.op _) (funext fun _ => ?_)
  refine congrArg (Prog.op _) (funext fun _ => ?_)
  refine congrArg (Prog.op _) (funext fun _ => ?_)
  rw [k0_part21_eq_skeleton]
  unfold k0_part21_skel
  simp only [semWaitWord, Prog.lift, Prog.bind_op, Prog.bind_ret, Prog.pure_eq_ret]
  refine congrArg (Prog.op _) (funext fun _ => ?_)
  refine congrArg (Prog.op _) (funext fun _ => ?_)
  refine congrArg (Prog.op _) (funext fun _ => ?_)
  rw [k0_part22_eq_skeleton]
  unfold k0_part22_skel
  simp only [semWaitWord, Prog.lift, Prog.bind_op, Prog.bind_ret, Prog.pure_eq_ret]
  refine congrArg (Prog.op _) (funext fun _ => ?_)
  refine congrArg (Prog.op _) (funext fun _ => ?_)
  refine congrArg (Prog.op _) (funext fun _ => ?_)
  refine congrArg (Prog.op _) (funext fun a => ?_)
  refine congrArg (Prog.op _) (funext fun b => ?_)
  refine congrArg (Prog.op _) (funext fun c => ?_)
  refine congrArg (Prog.op _) (funext fun d => ?_)
  simp only [lanes64_eq, gathered_rows, gathered_rows_mask, gathered_rows_max]
  refine of_pure (part23 arg0 harg0 arg1 harg1 arg2 harg2 arg3 arg4 (gathered a b c d)) ?_
  dsimp only
  refine of_pure (part24 arg0 harg0 arg1 harg1 arg2 harg2 arg3 arg4 (gathered a b c d)) ?_
  dsimp only
  refine of_pure (part25 arg0 harg0 arg1 harg1 arg2 harg2 arg3 arg4 (gathered a b c d)) ?_
  dsimp only
  refine of_pure (part26 arg0 harg0 arg1 harg1 arg2 harg2 arg3 arg4 (gathered a b c d)) ?_
  rfl

end Cert.KernelIdeal.Exchange

end
-- ==== Proof.ExchangeIdeal.lean ====
/-
# The body of the kernel under the exchange protocol

One rule per operation of the protocol at a symbolic device and a symbolic peer, then the whole body once at a
symbolic device.
-/
module

public import proofs.«01_k».proof.Proof.BodyIdeal

@[expose] public section

noncomputable section

namespace Cert.KernelIdeal.Exchange

open Cert.KernelIdeal Cert.KernelIdeal.Gen Cert.TopK Cert.KernelIdeal.TopK

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The whole-buffer accesses -/

abbrev rx : Rect S512x4096 := Rect.unit (s := S512x4096) ![0, 0] S512x4096.size inb_S512x4096_S512x4096_0_0
abbrev ro : Rect S512x16 := Rect.unit (s := S512x16) ![0, 0] S512x16.size inb_S512x16_S512x16_0_0
abbrev rOwn (c : Dev nD) : Rect S4x512x16 := Rect.unit (s := S4x512x16) (k0_off1 c) S1x512x16.size (k0_off1_inb c)

theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S512x4096 .f32).view.readAt (Elt F) rx.toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S512x16 .f32).access ro : View sig .tc _ _ _).write (Elt F) f w Finset.univ = w :=
  Memref.write_access_unit_zero_univ (Elt F) cc0_stg1_0 hz _ f w

/-! ## One rule per operation of the protocol -/

section Ops

variable (K : Dev nD × CK → ℕ)

/-- Device `c`'s `j`-th signal: it pays with its slot that carries the peer's number. -/
theorem wp_signal_peer {α : Type} {Q : α → sProp 𝕄} {k : PUnit → Prog (TpuEff nD τ sig (Elt F) Λ₀ .tc) α} (c n : Dev nD) (j : Fin 3) (hn : n = peer j c) {k' : ℕ} (hk : 1 = k')
    (f : Buf (Elt F) ((c : Thread nD τ).loc cc0_scratch0)) (O : CellTallies nD τ sig Unit) (W : Waits sig Unit) :
    iprop(records m K ∗ owes (c : Thread nD τ) (O + oweB c j) W ∗ dutyTok ER (barCell (peer j c)) 0 j ∗ slotPts c (peer j c) fullShare f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn; subst hk
  iintro ⟨#HR, HO, Ht, Hs⟩
  iapply (Rounds.wp_signal 𝒱₀ ER (ringRd m) (c : Thread nD τ) none (dst := (peer j c : Thread nD τ)) (κ := K (peer j c, none))
      (d := j) (by rw [duties_bar]; exact Finset.mem_univ _) (amount_bar m (peer j c) j) () O rfl)
  isplitr; · iapply (inv_at m K (peer j c, none)); iexact HR
  isplitl [HO]; · iexact HO
  isplitl [Ht]; · iexact Ht
  isplitl [Hs]
  · rw [payload_bar]; unfold barPay; rw [peer_back]; iexists f; iexact Hs
  iapply (reached_at m K (peer j c, none)); iexact HR

/-- Device `c`'s wait for the three signals: the others' slots that carry its number come with them. -/
theorem wp_wait_peers {α : Type} {Q : α → sProp 𝕄} {k : PUnit → Prog (TpuEff nD τ sig (Elt F) Λ₀ .tc) α} (c : Dev nD) {k' : ℕ} (hk : 3 = k') (W : Waits sig Unit) :
    iprop(records m K ∗ cred (tallyAt (barCell c) () 3) ∗ owes (c : Thread nD τ) (OR c) W ∗ levAts L lv ∗ atPos ER (barCell c) 0 ∅ 0)
      ⊢ iprop(((owes (c : Thread nD τ) (OR c) (insert (SemLoc.reg barS, ()) W) ∗ semVal (barCell c) 0 ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  iintro ⟨#HR, Hc, HO, #Hlev, Hat⟩ Hk
  ihave #HI := (inv_at m K (c, none)) $$ HR
  iapply (Rounds.wp_wait_rest_token 𝒱₀ ER (ringRd m) (c : Thread nD τ) none (κ := K (c, none))
      (wpE_semWait_eq 𝒱₀ (c : Thread nD τ) none Set.univ) (Set.mem_univ _) () (O := OR c) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (ringRd m) (Set.mem_univ (K (c, none))) (fun h => h) (R := 0 + 1) (duties_later m (barCell c))) $$ [Hat] with Hz
  · isplitr; · iexact HI
    iexact Hat
  iapply Hk
  isplitl [HO]; · iexact HO
  isplitl [Hz]; · iexact Hz
  iexact Hp

/-- Device `c`'s `j`-th transfer, of its own slot into the peer's slot of the same number. -/
theorem wp_send_peer {α : Type} {Q : α → sProp 𝕄} {k : PUnit → Prog (TpuEff nD τ sig (Elt F) Λ₀ .tc) α} (c n : Dev nD) (j : Fin 3) (hn : n = peer j c) {hsc : (slotM c : Memref sig (Dev.tc n : Thread nD τ).2.kind .vmem S512x16 .f32).view.ref.isScScratch = false}
    {hsrc : (slotM c).view.WordExact} {hdst : (slotM c).view.WordExact}
    {hsem : DmaTarget.Typed .vmem (.dma (recvS j)) (.remote (Dev.tc n : Thread nD τ) (slotM c) (.dma (sendS j)) hsc)}
    (fn : Buf (Elt F) ((peer j c : Thread nD τ).loc cc0_scratch0)) (O : CellTallies nD τ sig Unit) (W : Waits sig Unit) :
    iprop(records m K ∗ slotPts c c (Ring.shares3 fullShare j) (G m) ∗ slotPts (peer j c) c fullShare fn
        ∗ owes (c : Thread nD τ) (O + oweR c j) W ∗ dutyTok ER (sendCell c j) 0 (0 : Fin 3) ∗ dutyTok ER (recvCell (peer j c) j) 0 (0 : Fin 3))
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM c) (.remote (Dev.tc n : Thread nD τ) (slotM c) (.dma (sendS j)) hsc) (.dma (recvS j)) hsrc hdst hsem) k) Q) := by
  subst hn
  iintro ⟨#HR, Hs, Hd, HO, Ht, Ht'⟩
  iapply (Rounds.wp_send_pointsTo 𝒱₀ ER (ringRd m) (c : Thread nD τ) none (κ₁ := K (c, some (false, j))) (κ₂ := K (peer j c, some (true, j)))
    (c' := (peer j c : Thread nD τ)) (src := slotM c) (dst := slotM c) (q := Ring.shares3 fullShare j) (fs := (G m : Buf (Elt F) ((c : Thread nD τ).loc cc0_scratch0)))
    (r₁ := 0) (r₂ := 0) (d₁ := (0 : Fin 3)) (d₂ := (0 : Fin 3)) (fd := fn)
    (by rw [duties_send]; exact Finset.mem_singleton_self _) (by rw [duties_recv]; exact Finset.mem_singleton_self _)
    () () N rfl (amount_send m c j 0) (amount_recv m (peer j c) j 0) O rfl (W := W)
    (by rw [payload_send, slotM_set]; exact BI.Entails.refl _)
    (by
      rw [payload_recv, slotM_set]; unfold recvPay slotPts; rw [peer_back]
      exact Entails.of_eq (pointsTo_congr fun i hi => write_landed c fn (G m) i hi)))
  isplitr; · iapply (inv_at m K (c, some (false, j))); iexact HR
  isplitr; · iapply (inv_at m K (peer j c, some (true, j))); iexact HR
  isplitl [Hs]; · rw [slotM_set]; unfold slotPts; iexact Hs
  isplitl [Hd]; · rw [slotM_set]; unfold slotPts; iexact Hd
  isplitl [HO]; · iexact HO
  isplitl [Ht]; · iexact Ht
  isplitr; · iapply (reached_at m K (c, some (false, j))); iexact HR
  isplitl [Ht']; · iexact Ht'
  iapply (reached_at m K (peer j c, some (true, j))); iexact HR

/-- Device `c`'s wait on its `j`-th send cell: the share of its own slot comes back. -/
theorem wp_wait_send {α : Type} {Q : α → sProp 𝕄} {k : PUnit → Prog (TpuEff nD τ sig (Elt F) Λ₀ .tc) α} (c : Dev nD) (j : Fin 3) {hsrc : (slotM c).view.WordExact} {hdst : (slotM c).view.WordExact} (W : Waits sig Unit) :
    iprop(records m K ∗ cred (tallyAt (sendCell c j) () N) ∗ owes (c : Thread nD τ) 0 W ∗ atPos ER (sendCell c j) 0 ∅ 0)
      ⊢ iprop(((owes (c : Thread nD τ) 0 (insert (SemLoc.dma (sendS j), ()) W) ∗ semVal (sendCell c j) 0 ∗ sendPay m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) (slotM c) (slotM c) hsrc hdst) k) Q) := by
  iintro ⟨#HR, Hc, HO, Hat⟩ Hk
  ihave #HI := (inv_at m K (c, some (false, j))) $$ HR
  iapply (Rounds.wp_wait_rest_token 𝒱₀ ER (ringRd m) (c : Thread nD τ) none (κ := K (c, some (false, j)))
      (wpE_waitDma2_eq 𝒱₀ (c : Thread nD τ) none Set.univ) (Set.mem_univ _) () (O := 0) (W := W) (R := 0) (m := 0) (T := ∅)
      (by rw [Nat.zero_add]; exact (expect_send m c j).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c j)) $$ Hpay
  imod (Rounds.cell_close ER (ringRd m) (Set.mem_univ (K (c, some (false, j)))) (fun h => h) (R := 0 + 1) (duties_later m (sendCell c j))) $$ [Hat] with Hz
  · isplitr; · iexact HI
    iexact Hat
  iapply Hk
  isplitl [HO]; · iexact HO
  isplitl [Hz]; · iexact Hz
  iexact Hp

/-- Device `c`'s wait on its `j`-th receive cell: the slot the transfer filled comes with it. -/
theorem wp_wait_recv {α : Type} {Q : α → sProp 𝕄} {k : PUnit → Prog (TpuEff nD τ sig (Elt F) Λ₀ .tc) α} (c : Dev nD) (j : Fin 3) {hsrc : (slotM c).view.WordExact} {hdst : (slotM c).view.WordExact} (W : Waits sig Unit) :
    iprop(records m K ∗ cred (tallyAt (recvCell c j) () N) ∗ owes (c : Thread nD τ) 0 W ∗ atPos ER (recvCell c j) 0 ∅ 0)
      ⊢ iprop(((owes (c : Thread nD τ) 0 (insert (SemLoc.dma (recvS j), ()) W) ∗ semVal (recvCell c j) 0 ∗ recvPay m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS j) (slotM c) (slotM c) hsrc hdst) k) Q) := by
  iintro ⟨#HR, Hc, HO, Hat⟩ Hk
  ihave #HI := (inv_at m K (c, some (true, j))) $$ HR
  iapply (Rounds.wp_wait_rest_token 𝒱₀ ER (ringRd m) (c : Thread nD τ) none (κ := K (c, some (true, j)))
      (wpE_waitDma2_eq 𝒱₀ (c : Thread nD τ) none Set.univ) (Set.mem_univ _) () (O := 0) (W := W) (R := 0) (m := 0) (T := ∅)
      (by rw [Nat.zero_add]; exact (expect_recv m c j).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c j)) $$ Hpay
  imod (Rounds.cell_close ER (ringRd m) (Set.mem_univ (K (c, some (true, j)))) (fun h => h) (R := 0 + 1) (duties_later m (recvCell c j))) $$ [Hat] with Hz
  · isplitr; · iexact HI
    iexact Hat
  iapply Hk
  isplitl [HO]; · iexact HO
  isplitl [Hz]; · iexact Hz
  iexact Hp

end Ops

/-! ## The body -/

section Body

variable (K : Dev nD × CK → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ creds0 c ∗ levAts L lv ∗ ∃ f : Buf (Elt F) ((c : Thread nD τ).loc cc0_scratch0), ((c : Thread nD τ).loc cc0_scratch0) ↦{fullShare} f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m c ∗ (dats m ρ 0 c).owesAt () t₀.succ ∗ stg c cc0_stg0_0 (xstg m c) ∗ stg c cc0_stg1_0 (outAt m))

omit [FloatOps F] in
/-- What the three signals brought, named by the peers the transfers go to. -/
theorem bar_slots (c : Dev nD) : iprop(barPay c 0 ∗ barPay c 1 ∗ barPay c 2)
    ⊢ (iprop((∃ f, slotPts (peer 0 c) c fullShare f) ∗ (∃ f, slotPts (peer 1 c) c fullShare f) ∗ ∃ f, slotPts (peer 2 c) c fullShare f) : sProp 𝕄) := by
  unfold barPay
  iintro ⟨H0, H1, H2⟩
  isplitl [H2]; · iexact H2
  isplitl [H1]; · iexact H1
  iexact H0

/-- What the waits brought is the whole scratch buffer at its final contents. -/
theorem slots_back (c : Dev nD) :
    iprop((sendPay m c 0 ∗ sendPay m c 1 ∗ sendPay m c 2) ∗ (recvPay m c 0 ∗ recvPay m c 1 ∗ recvPay m c 2))
      ⊢ (((c : Thread nD τ).loc cc0_scratch0) ↦{fullShare} (G m : Buf (Elt F) ((c : Thread nD τ).loc cc0_scratch0)) : sProp 𝕄) := by
  rw [slots_split]
  unfold sendPay recvPay
  iintro ⟨Hs, H0, H1, H2⟩
  isplitl [Hs]
  · unfold slotPts; iapply (Ring.pointsTo_thirds _ _).2; iexact Hs
  isplitl [H2]; · iexact H2
  isplitl [H1]; · iexact H1
  iexact H0

set_option maxHeartbeats 1600000 in
/-- The body, one rule per operation in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  rw [body_eq]
  unfold exec
  simp only [semSignalWord, semWaitWord, Prog.lift, Prog.bind_op, Prog.bind_ret, Prog.pure_eq_ret, wp_deviceId]
  unfold bodyPre ghost posns payToks creds0
  iintro ⟨⟨⟨⟨#HR, ⟨HaB, HaS0, HaS1, HaS2, HaV0, HaV1, HaV2⟩, HtB0, HtB1, HtB2, HtS0, HtS1, HtS2, HtV0, HtV1, HtV2⟩, ⟨HcB, HcV0, HcV1, HcV2⟩, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  ihave Hsl := (Entails.of_eq (slots_split c f0)) $$ Hscr
  icases Hsl with ⟨Hown, Hsl0, Hsl1, Hsl2⟩
  -- the three signals
  iapply (wp_signal_peer m K c _ 0 (dev1_eq c) (by decide) f0 (OR c + oweB c 2 + oweB c 1) W) $$ [HO HtB0 Hsl0]
  · isplitr; · iexact HR
    isplitl [HO]; · iexact HO
    isplitl [HtB0] <;> iassumption
  iintro HO
  iapply (wp_signal_peer m K c _ 1 (dev2_eq c) (by decide) f0 (OR c + oweB c 2) W) $$ [HO HtB1 Hsl1]
  · isplitr; · iexact HR
    isplitl [HO]; · iexact HO
    isplitl [HtB1] <;> iassumption
  iintro HO
  iapply (wp_signal_peer m K c _ 2 (dev3_eq c) (by decide) f0 (OR c) W) $$ [HO HtB2 Hsl2]
  · isplitr; · iexact HR
    isplitl [HO]; · iexact HO
    isplitl [HtB2] <;> iassumption
  iintro HO
  -- its own sixteen values, stored in its own slot
  iapply (wp_load 𝒱₀ (c : Thread nD τ) none Set.univ (m := xM) (Finset.subset_univ _)) $$ Hx; iintro Hx
  rw [read_x]
  unfold slotPts
  iapply (wp_load_rect 𝒱₀ (c : Thread nD τ) none Set.univ (m := rM) (r := rOwn c) (by rw [access_set (k0_off1_eq c)])) $$ Hown; iintro Hown
  iapply (wp_store 𝒱₀ (c : Thread nD τ) none Set.univ (m := rM) (r := rOwn c) (Mk := Finset.univ) (by rw [View.setOn_univ, access_set (k0_off1_eq c)])) $$ Hown; iintro Hown
  ihave Hown := (Entails.of_eq (pointsTo_congr fun i hi => write_slot m (k0_off1_eq c) (k0_off1_inb c) f0 i hi)) $$ Hown
  -- the wait for the three signals
  iapply (wp_wait_peers m K c (by decide) W) $$ [HcB HO HaB]
  · isplitr; · iexact HR
    isplitl [HcB]; · iexact HcB
    isplitl [HO]; · iexact HO
    isplitr; · iexact Hlev
    iexact HaB
  iintro ⟨HO, HzB, Hbar⟩
  ihave Hb := (bar_slots c) $$ Hbar
  icases Hb with ⟨⟨%p0, Hp0⟩, ⟨%p1, Hp1⟩, ⟨%p2, Hp2⟩⟩
  ihave Hsh := (Ring.pointsTo_thirds _ _).1 $$ Hown
  icases Hsh with ⟨Hs0, Hs1, Hs2⟩
  -- the three transfers
  iapply (wp_send_peer m K c _ 0 (dev4_eq c) p0 (oweR c 2 + oweR c 1) _) $$ [Hs0 Hp0 HO HtS0 HtV0]
  · isplitr; · iexact HR
    isplitl [Hs0]; · unfold slotPts; iexact Hs0
    isplitl [Hp0]; · iexact Hp0
    isplitl [HO]; · iexact HO
    isplitl [HtS0] <;> iassumption
  iintro ⟨HcS0, HO⟩
  iapply (wp_send_peer m K c _ 1 (dev5_eq c) p1 (oweR c 2) _) $$ [Hs1 Hp1 HO HtS1 HtV1]
  · isplitr; · iexact HR
    isplitl [Hs1]; · unfold slotPts; iexact Hs1
    isplitl [Hp1]; · iexact Hp1
    isplitl [HO]; · iexact HO
    isplitl [HtS1] <;> iassumption
  iintro ⟨HcS1, HO⟩
  iapply (wp_send_peer m K c _ 2 (dev6_eq c) p2 0 _) $$ [Hs2 Hp2 HO HtS2 HtV2]
  · isplitr; · iexact HR
    isplitl [Hs2]; · unfold slotPts; iexact Hs2
    isplitl [Hp2]; · iexact Hp2
    isplitl [HO]; · rw [zero_add]; iexact HO
    isplitl [HtS2] <;> iassumption
  iintro ⟨HcS2, HO⟩
  -- the six waits
  iapply (wp_wait_send m K c 0 _) $$ [HcS0 HO HaS0]
  · isplitr; · iexact HR
    isplitl [HcS0]; · iexact HcS0
    isplitl [HO] <;> iassumption
  iintro ⟨HO, HzS0, Hs0⟩
  iapply (wp_wait_recv m K c 0 _) $$ [HcV0 HO HaV0]
  · isplitr; · iexact HR
    isplitl [HcV0]; · iexact HcV0
    isplitl [HO] <;> iassumption
  iintro ⟨HO, HzV0, Hr0⟩
  iapply (wp_wait_send m K c 1 _) $$ [HcS1 HO HaS1]
  · isplitr; · iexact HR
    isplitl [HcS1]; · iexact HcS1
    isplitl [HO] <;> iassumption
  iintro ⟨HO, HzS1, Hs1⟩
  iapply (wp_wait_recv m K c 1 _) $$ [HcV1 HO HaV1]
  · isplitr; · iexact HR
    isplitl [HcV1]; · iexact HcV1
    isplitl [HO] <;> iassumption
  iintro ⟨HO, HzV1, Hr1⟩
  iapply (wp_wait_send m K c 2 _) $$ [HcS2 HO HaS2]
  · isplitr; · iexact HR
    isplitl [HcS2]; · iexact HcS2
    isplitl [HO] <;> iassumption
  iintro ⟨HO, HzS2, Hs2⟩
  iapply (wp_wait_recv m K c 2 _) $$ [HcV2 HO HaV2]
  · isplitr; · iexact HR
    isplitl [HcV2]; · iexact HcV2
    isplitl [HO] <;> iassumption
  iintro ⟨HO, HzV2, Hr2⟩
  ihave Hscr := (slots_back m c) $$ [Hs0 Hs1 Hs2 Hr0 Hr1 Hr2]
  · isplitl [Hs0 Hs1 Hs2]
    · isplitl [Hs0]; · iexact Hs0
      isplitl [Hs1] <;> iassumption
    isplitl [Hr0]; · iexact Hr0
    isplitl [Hr1] <;> iassumption
  -- the loads of the four slots and the store of the result
  iapply (wp_load 𝒱₀ (c : Thread nD τ) none Set.univ (m := rM) (Finset.subset_univ _)) $$ Hscr; iintro Hscr
  rw [read_slot m (off := ![0, 0, 0]) (s := 0) rfl]
  iapply (wp_load 𝒱₀ (c : Thread nD τ) none Set.univ (m := rM) (Finset.subset_univ _)) $$ Hscr; iintro Hscr
  rw [read_slot m (off := ![1, 0, 0]) (s := 1) rfl]
  iapply (wp_load 𝒱₀ (c : Thread nD τ) none Set.univ (m := rM) (Finset.subset_univ _)) $$ Hscr; iintro Hscr
  rw [read_slot m (off := ![2, 0, 0]) (s := 2) rfl]
  iapply (wp_load 𝒱₀ (c : Thread nD τ) none Set.univ (m := rM) (Finset.subset_univ _)) $$ Hscr; iintro Hscr
  rw [read_slot m (off := ![3, 0, 0]) (s := 3) rfl]
  iapply (wp_load 𝒱₀ (c : Thread nD τ) none Set.univ (m := oM) (Finset.subset_univ _)) $$ Hout; iintro Hout
  iapply (wp_store 𝒱₀ (c : Thread nD τ) none Set.univ (m := oM) (r := ro) (Mk := Finset.univ) (Finset.subset_univ _)) $$ Hout; iintro Hout
  rw [write_out, wp_ret]; imodintro
  iapply Hk
  unfold bodyPost Φ₁ zeros Dat.owesAt Pipeline.owesWithin
  rw [show (dats m ρ 0 c).owed t₀.succ = 0 from rfl]
  isplitl [Hscr HzB HzS0 HzS1 HzS2 HzV0 HzV1 HzV2]
  · isplitl [Hscr]; · iexact Hscr
    isplitr [HzB]
    · isplitl [HzS0]; · iexact HzS0
      isplitl [HzS1]; · iexact HzS1
      isplitl [HzS2]; · iexact HzS2
      isplitl [HzV0]; · iexact HzV0
      isplitl [HzV1] <;> iassumption
    iexact HzB
  isplitl [HO]
  · iexists (insert (SemLoc.dma (recvS 2), ()) (insert (SemLoc.dma (sendS 2), ()) (insert (SemLoc.dma (recvS 1), ()) (insert (SemLoc.dma (sendS 1), ())
      (insert (SemLoc.dma (recvS 0), ()) (insert (SemLoc.dma (sendS 0), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    isplitl [Hx] <;> iassumption
  · iintro H; iexact H

end Body

end Cert.KernelIdeal.Exchange

end
-- ==== Proof.LaunchIdeal.lean ====
/-
# The launch of the kernel

The cells and the duty tokens every device is dealt, the credit it starts with, and the run of the whole program.
-/
module

public import proofs.«01_k».proof.Proof.ExchangeIdeal
public import proofs.«01_k».proof.Proof.Gen.KernelIdeal.Launch
public import Idealize.ShloMosaic.Lib.Pipeline.CollectiveSegs

@[expose] public section

noncomputable section

namespace Cert.KernelIdeal.Exchange

open Cert.KernelIdeal Cert.KernelIdeal.Gen Cert.TopK Cert.KernelIdeal.TopK

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## The cells and the tokens -/

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_inj (congrArg Prod.snd h)
  rw [h1, h2]
def ringCells : Finset (GSem nD τ sig) := Finset.univ.map ⟨kcell, kcell_injective⟩

/-- The kinds of token minted on a device's own cells: `(none, j)` is duty `j` of its barrier, `(some b, j)` the one duty of the cell `(b, j)`. -/
abbrev TK : Type := Option Bool × Fin 3
abbrev tkCell (t : TK) : CK := t.1.map fun b => (b, t.2)
abbrev tkDuty (t : TK) : Fin 3 := match t.1 with | none => t.2 | some _ => 0
abbrev tokOf (ct : Dev nD × TK) : GSem nD τ sig × ℕ × Fin 3 := (kcell (ct.1, tkCell ct.2), 0, tkDuty ct.2)
theorem tk_inj : ∀ t t' : TK, tkCell t = tkCell t' → tkDuty t = tkDuty t' → t = t' := by decide
theorem tokOf_injective : Function.Injective (tokOf : Dev nD × TK → GSem nD τ sig × ℕ × Fin 3) := by
  rintro ⟨c, t⟩ ⟨c', t'⟩ h
  have h1 := kcell_injective (congrArg Prod.fst h)
  have h2 : tkDuty t = tkDuty t' := congrArg (fun x : GSem nD τ sig × ℕ × Fin 3 => x.2.2) h
  rw [show c = c' from congrArg Prod.fst h1, tk_inj t t' (congrArg Prod.snd h1) h2]
def ringToks : Finset (GSem nD τ sig × ℕ × Fin 3) := Finset.univ.map ⟨tokOf, tokOf_injective⟩

def u₀ : UU := (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 (0 : Fin 3) ∗ dutyTok ER (barCell c) 0 (1 : Fin 3) ∗ dutyTok ER (barCell c) 0 (2 : Fin 3)
    ∗ dutyTok ER (sendCell c 0) 0 (0 : Fin 3) ∗ dutyTok ER (sendCell c 1) 0 (0 : Fin 3) ∗ dutyTok ER (sendCell c 2) 0 (0 : Fin 3)
    ∗ dutyTok ER (recvCell c 0) 0 (0 : Fin 3) ∗ dutyTok ER (recvCell c 1) 0 (0 : Fin 3) ∗ dutyTok ER (recvCell c 2) 0 (0 : Fin 3))

/-- What the launch deals device `c`. -/
def dealt (c : Dev nD) : sProp 𝕄 :=
  iprop((bigSep Finset.univ fun k : CK => roundState ER (ringRd m) (kcell (c, k)) 0)
    ∗ (bigSep Finset.univ fun k : CK => iprop(atPos ER (kcell (c, k)) 0 ∅ 0 ∗ reached ER (kcell (c, k)) 0)) ∗ toks c)

omit [FloatOps F] in
theorem bigSep_CK (Φ : CK → sProp 𝕄) : bigSep Finset.univ Φ
    = iprop(Φ none ∗ Φ (some (false, 0)) ∗ Φ (some (false, 1)) ∗ Φ (some (false, 2)) ∗ Φ (some (true, 0)) ∗ Φ (some (true, 1)) ∗ Φ (some (true, 2))) :=
  bigSep_univ_eq_bigSepL ckL (by decide) (by decide) Φ
omit [FloatOps F] in
theorem bigSep_TK (Φ : TK → sProp 𝕄) : bigSep Finset.univ Φ
    = iprop(Φ (none, 0) ∗ Φ (none, 1) ∗ Φ (none, 2) ∗ Φ (some false, 0) ∗ Φ (some false, 1) ∗ Φ (some false, 2) ∗ Φ (some true, 0) ∗ Φ (some true, 1) ∗ Φ (some true, 2)) :=
  bigSep_univ_eq_bigSepL [(none, 0), (none, 1), (none, 2), (some false, 0), (some false, 1), (some false, 2), (some true, 0), (some true, 1), (some true, 2)]
    (by decide) (by decide) Φ

theorem fund_ring : BI.own (ER (initOf ringCells ringToks)) ⊢ (|==> bigSep Finset.univ (dealt m) : sProp 𝕄) := by
  have hC (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_TK]; rfl
  iintro HX
  imod (Rounds.fund ER (ringRd m) ringCells ringToks) $$ HX with ⟨Hst, Hr, Hat, Htok⟩
  imodintro
  ihave Hst' := (Entails.of_eq (hC fun g => roundState ER (ringRd m) g 0)) $$ Hst
  ihave Hat' := (Entails.of_eq (hC fun g => atPos ER g 0 ∅ 0)) $$ Hat
  ihave Hr' := (Entails.of_eq (hC fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
      ∗ semVal (recvCell c 0) 0 ∗ semVal (recvCell c 1) 0 ∗ semVal (recvCell c 2) 0) := by
  rw [Pipeline.ownSems0_eq_of_list c osem [(false, 0), (false, 1), (false, 2), (true, 0), (true, 1), (true, 2)] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨HO, HB⟩
  isplitl [HB]; · iexact HB
  iexact HO

/-- Every cell of device `c` put under an invariant. -/
theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  have halloc : iprop((bigSep Finset.univ fun k : CK => semVal (kcell (c, k)) 0) ∗ bigSep Finset.univ fun k : CK => roundState ER (ringRd m) (kcell (c, k)) 0)
      ⊢ (|={Set.univ}=> bigSep Finset.univ fun k => iprop(∃ κ : ℕ, cellInv ER (ringRd m) κ (kcell (c, k))) : sProp 𝕄) := by
    rw [← bigSep_sep']
    exact (bigSep_mono fun k _ => (Rounds.body_intro ER (ringRd m) (kcell (c, k))).trans inv_alloc).trans (bigSep_fupd _ _)
  unfold dealt
  iintro ⟨Hos, Hus, Hst, Hat, Htok⟩
  ihave Hv := (sems0_eq (F := F) c) $$ [Hos Hus]
  · isplitl [Hos] <;> iassumption
  imod halloc $$ [Hv Hst] with Hinv
  · isplitl [Hv] <;> iassumption
  imodintro
  isplitl [Hinv]; · iexact Hinv
  isplitl [Hat] <;> iassumption

omit [FloatOps F] in
/-- The tokens dealt to the devices that pay the duties. -/
theorem toks_around : (bigSep Finset.univ fun c : Dev nD => (toks c : sProp 𝕄)) ⊢ bigSep Finset.univ fun c : Dev nD => payToks c := by
  have h (j : Fin 3) (Φ : Dev nD → sProp 𝕄) : bigSep Finset.univ Φ = bigSep Finset.univ fun c => Φ (peer j c) := bigSep_univ_equiv (turn j) Φ
  unfold toks payToks
  simp only [bigSep_sep']
  rw [h 0 fun c => dutyTok ER (barCell c) 0 (0 : Fin 3), h 1 fun c => dutyTok ER (barCell c) 0 (1 : Fin 3), h 2 fun c => dutyTok ER (barCell c) 0 (2 : Fin 3),
    h 0 fun c => dutyTok ER (recvCell c 0) 0 (0 : Fin 3), h 1 fun c => dutyTok ER (recvCell c 1) 0 (0 : Fin 3), h 2 fun c => dutyTok ER (recvCell c 2) 0 (0 : Fin 3)]

omit [FloatOps F] in
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ fun c => iprop(∃ K, ghost m K c) := by
  rw [bigSep_sep', bigSep_sep', ← bigSep_univ_prod (fun ck : Dev nD × CK => iprop(∃ κ : ℕ, cellInv ER (ringRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m) κ (kcell ck) : sProp 𝕄))) $$ HI
  icases HK with ⟨%K, #HI⟩
  ihave Htk := (toks_around (F := F)) $$ Htok
  have hone (c : Dev nD) : iprop(records m K ∗ (bigSep Finset.univ fun k : CK => atPos ER (kcell (c, k)) 0 ∅ 0) ∗ payToks c)
      ⊢ (iprop(∃ K, ghost m K c) : sProp 𝕄) := by
    rw [bigSep_CK]
    iintro H
    iexists K
    unfold ghost posns
    iexact H
  iapply (bigSep_share (R := records m K) fun c _ => hone c)
  isplitr
  · unfold records; isplitl; · iexact HI
    iexact HR
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ fun c => iprop(∃ K, ghost m K c) :=
  ((bigSep_mono fun c _ => core_alloc m c).trans (bigSep_fupd _ _)).trans (BI.fupd_mono (regroup m))

/-! ## The credit -/

omit [FloatOps F] in
theorem cred_bar (j : Fin 3) (c : Dev nD) : (Pipeline.launchCred (fun d => oweB d j) c : sProp 𝕄) ⊢ cred (tallyAt (barCell c) () 1) :=
  Pipeline.launchCred_tallyAt (.reg barS) (peer j) (peer (opp j)) (peer_forth j) (peer_back j) () 1 c
omit [FloatOps F] in
theorem cred_recv (j : Fin 3) (c : Dev nD) : (Pipeline.launchCred (fun d => oweR d j) c : sProp 𝕄) ⊢ cred (tallyAt (recvCell c j) () N) :=
  Pipeline.launchCred_tallyAt (.dma (recvS j)) (peer j) (peer (opp j)) (peer_forth j) (peer_back j) () N c

omit [FloatOps F] in
theorem creds (c : Dev nD) : (Pipeline.launchCred O₀ c : sProp 𝕄) ⊢ creds0 c := by
  have hO : (O₀ : Dev nD → CellTallies nD τ sig Unit)
      = fun d => (((((oweR d 2 + oweR d 1) + oweR d 0) + oweB d 2) + oweB d 1) + oweB d 0) := rfl
  rw [hO, Pipeline.launchCred_add (fun d => ((((oweR d 2 + oweR d 1) + oweR d 0) + oweB d 2) + oweB d 1)) (fun d => oweB d 0),
    Pipeline.launchCred_add (fun d => (((oweR d 2 + oweR d 1) + oweR d 0) + oweB d 2)) (fun d => oweB d 1),
    Pipeline.launchCred_add (fun d => ((oweR d 2 + oweR d 1) + oweR d 0)) (fun d => oweB d 2),
    Pipeline.launchCred_add (fun d => (oweR d 2 + oweR d 1)) (fun d => oweR d 0),
    Pipeline.launchCred_add (fun d => oweR d 2) (fun d => oweR d 1)]
  unfold creds0
  rw [show (tallyAt (barCell c) () 3 : CellTallies nD τ sig Unit) = tallyAt (barCell c) () 1 + (tallyAt (barCell c) () 1 + tallyAt (barCell c) () 1) by
    rw [tallyAt_add, tallyAt_add]]
  iintro ⟨⟨⟨⟨⟨R2, R1⟩, R0⟩, B2⟩, B1⟩, B0⟩
  isplitl [B0 B1 B2]
  · iapply (cred_add _ _).2
    isplitl [B0]; · iapply (cred_bar 0 c); iexact B0
    iapply (cred_add _ _).2
    isplitl [B1]; · iapply (cred_bar 1 c); iexact B1
    iapply (cred_bar 2 c); iexact B2
  isplitl [R0]; · iapply (cred_recv 0 c); iexact R0
  isplitl [R1]; · iapply (cred_recv 1 c); iexact R1
  iapply (cred_recv 2 c); iexact R2

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ∃ K, ghost m K c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ zeros
  iintro ⟨Hr, Hz, HzB⟩
  isplitl [HzB]; · iexact HzB
  isplitl [Hz]; · iexact Hz
  iexists _; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What a window's array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- The program terminates on four devices, from any memory with the counters at zero; every window's array then holds its
    final contents, and every counter is at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m) (G' := fun c => iprop(∃ K, ghost m K c)) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument is unchanged. -/
theorem finalA_x (c : Dev nD) : finalA m ρ c (0 : Fin 2) = m ((c : Thread nD τ).loc main_arg0) :=
  (dats (F := F) m ρ 0 c).arrAt_in (0 : Fin 2) rfl _

theorem flush_1 (t : Fin cfg0.N) : (cfg0.win (1 : Fin 2)).flush t = true := by rw [fin_N t]; rfl

/-- The result holds the sixteen largest of the gathered values. -/
theorem finalA_o (c : Dev nD) : finalA m ρ c (1 : Fin 2) = outAt m := by
  unfold finalA
  rw [show cfg0.N = t₀.val + 1 from rfl, (dats m ρ 0 c).arrAt_succ (1 : Fin 2) t₀, if_pos (flush_1 _)]
  exact Memref.write_access_unit_zero_univ (Elt F) main_v1 (funext fun a => by fin_cases a <;> rfl) _ _ _

/-- The block a device stages is its argument. -/
theorem xstg_eq (c : Dev nD) : xstg m c = m ((c : Thread nD τ).loc main_arg0) :=
  Memref.readAt_unit_zero (Elt F) main_arg0 (funext fun a => by fin_cases a <;> rfl) _ _

/-- The run in one statement: the argument unchanged, the result at its value, the counters at zero. -/
theorem run_value : θ_run defs (onTc (τ := τ) (main (F := F))) (s₀ m ρ) (fun r =>
    (∀ c : Dev nD, r.2.mem ((c : Thread nD τ).loc main_v1) = outAt m ∧ r.2.mem ((c : Thread nD τ).loc main_arg0) = m ((c : Thread nD τ).loc main_arg0))
      ∧ r.2.sem = fun _ => 0) :=
  (θ_run defs (onTc (τ := τ) (main (F := F))) _).mono (fun _ h =>
    ⟨fun c => ⟨(h.1 c (1 : Fin 2)).trans (finalA_o m ρ c), (h.1 c (0 : Fin 2)).trans (finalA_x m ρ c)⟩, h.2⟩) (run_main m ρ)

end Cert.KernelIdeal.Exchange

end
-- ==== Proof.Network.lean ====
/- The merges of the kernel read through one threshold. For a threshold every list of values becomes a list of
   truth values (is the entry at least the threshold?), a maximum becomes "or" and a minimum becomes "and". A list
   in descending order becomes a run of trues followed by falses: it is described by a count. The merges of two such
   lists add the counts, which is a finite fact about truth values. -/
module

public import proofs.«01_k».proof.Proof.Values

@[expose] public section

namespace Cert.TopK

/-- A compare-exchange stage at distance `d` on truth values. -/
def ceB (d : Nat) (f : Nat → Bool) (i : Nat) : Bool :=
  cond (Nat.beq (i / d % 2) 0) (f i || f (i + d)) (f (i - d) && f i)

/-- A list of `k` followed by the reverse of a second one, on truth values. -/
def joinB (k : Nat) (A B : Nat → Bool) (i : Nat) : Bool := cond (Nat.blt i k) (A i) (B (2 * k - 1 - i))

/-- The first `n` truth values of the list are `c` trues and then falses (all true when `n ≤ c`). -/
def Run (n : Nat) (A : Nat → Bool) (c : Nat) : Prop := ∀ i < n, A i = decide (i < c)

/-- A run of `p` trues, without a bound. -/
def steps (p i : Nat) : Bool := decide (i < p)

/-- A stage's result on the first `n` positions depends on those positions alone. -/
theorem ceB_congr {n d : Nat} (hd : ∀ i < n, i / d % 2 = 0 → i + d < n) {f g : Nat → Bool} (h : ∀ i < n, f i = g i) :
    ∀ i < n, ceB d f i = ceB d g i := by
  intro i hi
  unfold ceB
  rcases hb : Nat.beq (i / d % 2) 0 with _ | _
  · simp only [cond_false]; rw [h i hi, h (i - d) (by omega)]
  · simp only [cond_true]; rw [h i hi, h (i + d) (hd i hi (Nat.eq_of_beq_eq_true hb))]

/-- The same for joining two lists. -/
theorem joinB_congr {k : Nat} {A A' B B' : Nat → Bool} (hA : ∀ i < k, A i = A' i) (hB : ∀ i < k, B i = B' i) :
    ∀ i < 2 * k, joinB k A B i = joinB k A' B' i := by
  intro i hi
  unfold joinB
  rcases hb : Nat.blt i k with _ | _
  · have : ¬ i < k := by rw [← Nat.blt_eq, hb]; exact Bool.false_ne_true
    simp only [cond_false]; exact hB _ (by omega)
  · simp only [cond_true]; exact hA _ (by rw [← Nat.blt_eq]; exact hb)

/-- Merging two single entries. -/
def merge1 (A B : Nat → Bool) : Nat → Bool := ceB 1 (joinB 1 A B)
/-- Merging two lists of 2. -/
def merge2 (A B : Nat → Bool) : Nat → Bool := ceB 1 (ceB 2 (joinB 2 A B))
/-- Merging two lists of 4. -/
def merge4 (A B : Nat → Bool) : Nat → Bool := ceB 1 (ceB 2 (ceB 4 (joinB 4 A B)))
/-- Merging two lists of 8. -/
def merge8 (A B : Nat → Bool) : Nat → Bool := ceB 1 (ceB 2 (ceB 4 (ceB 8 (joinB 8 A B))))
/-- Folding two lists of 16 onto 16. -/
def fold16 (A B : Nat → Bool) : Nat → Bool := ceB 1 (ceB 2 (ceB 4 (ceB 8 fun i => A i || B (15 - i))))

theorem merge1_steps : ∀ p < 2, ∀ q < 2, ∀ i < 2, merge1 (steps p) (steps q) i = steps (p + q) i := by decide +kernel
theorem merge2_steps : ∀ p < 3, ∀ q < 3, ∀ i < 4, merge2 (steps p) (steps q) i = steps (p + q) i := by decide +kernel
theorem merge4_steps : ∀ p < 5, ∀ q < 5, ∀ i < 8, merge4 (steps p) (steps q) i = steps (p + q) i := by decide +kernel
theorem merge8_steps : ∀ p < 9, ∀ q < 9, ∀ i < 16, merge8 (steps p) (steps q) i = steps (p + q) i := by decide +kernel
theorem fold16_steps : ∀ p < 17, ∀ q < 17, ∀ i < 16, fold16 (steps p) (steps q) i = steps (p + q) i := by
  decide +kernel

/-- Merging two single entries adds the counts. -/
theorem merge1_run {A B : Nat → Bool} {p q : Nat} (hA : Run 1 A p) (hB : Run 1 B q) (hp : p ≤ 1) (hq : q ≤ 1) :
    Run 2 (merge1 A B) (p + q) := fun i hi =>
  (ceB_congr (by omega) (joinB_congr hA hB) i hi).trans (merge1_steps p (by omega) q (by omega) i hi)

/-- Merging two lists of 2 adds the counts. -/
theorem merge2_run {A B : Nat → Bool} {p q : Nat} (hA : Run 2 A p) (hB : Run 2 B q) (hp : p ≤ 2) (hq : q ≤ 2) :
    Run 4 (merge2 A B) (p + q) := fun i hi =>
  (ceB_congr (by omega) (ceB_congr (by omega) (joinB_congr hA hB)) i hi).trans
    (merge2_steps p (by omega) q (by omega) i hi)

/-- Merging two lists of 4 adds the counts. -/
theorem merge4_run {A B : Nat → Bool} {p q : Nat} (hA : Run 4 A p) (hB : Run 4 B q) (hp : p ≤ 4) (hq : q ≤ 4) :
    Run 8 (merge4 A B) (p + q) := fun i hi =>
  (ceB_congr (by omega) (ceB_congr (by omega) (ceB_congr (by omega) (joinB_congr hA hB))) i hi).trans
    (merge4_steps p (by omega) q (by omega) i hi)

/-- Merging two lists of 8 adds the counts. -/
theorem merge8_run {A B : Nat → Bool} {p q : Nat} (hA : Run 8 A p) (hB : Run 8 B q) (hp : p ≤ 8) (hq : q ≤ 8) :
    Run 16 (merge8 A B) (p + q) := fun i hi =>
  (ceB_congr (by omega) (ceB_congr (by omega) (ceB_congr (by omega) (ceB_congr (by omega)
    (joinB_congr hA hB)))) i hi).trans (merge8_steps p (by omega) q (by omega) i hi)

/-- A count above the list's length says no more than the length. -/
theorem Run.cap {n : Nat} {A : Nat → Bool} {c : Nat} (h : Run n A c) : Run n A (min c n) := fun i hi => by
  rw [h i hi]; exact decide_eq_decide.2 (by omega)

/-- Folding two lists of 16 adds the counts, as far as 16 positions show them. -/
theorem fold16_run {A B : Nat → Bool} {p q : Nat} (hA : Run 16 A p) (hB : Run 16 B q) :
    Run 16 (fold16 A B) (p + q) := by
  intro i hi
  have hA' := hA.cap
  have hB' := hB.cap
  have h0 : ∀ i < 16, (A i || B (15 - i)) = (steps (min p 16) i || steps (min q 16) (15 - i)) := fun i hi => by
    rw [hA' i hi, hB' (15 - i) (by omega)]; rfl
  refine ((ceB_congr (by omega) (ceB_congr (by omega) (ceB_congr (by omega) (ceB_congr (by omega) h0)))) i hi).trans
    ((fold16_steps (min p 16) (by omega) (min q 16) (by omega) i hi).trans ?_)
  exact decide_eq_decide.2 (by omega)

end Cert.TopK

end
-- ==== Proof.Count.lean ====
/- Counting the entries of a list that are at least a threshold. The descending order of a list is described by these
   counts: the entry at position `j` is at least `t` exactly when more than `j` entries are. -/
module

public import proofs.«01_k».proof.Proof.Network
public import Idealize.ShloMosaic.PureOps.Ideal.Laws

@[expose] public section

namespace Cert.TopK

open Idealize.ShloMosaic

/-- One where the entry is at least the threshold, else zero. -/
noncomputable def hit (t : EReal) (f : Nat → EReal) (k : Nat) : Nat := if t ≤ f k then 1 else 0

/-- How many of the first `n` entries are at least the threshold. -/
noncomputable def cnt (t : EReal) (f : Nat → EReal) (n : Nat) : Nat := ∑ k ∈ Finset.range n, hit t f k

theorem hit_le_one (t : EReal) (f : Nat → EReal) (k : Nat) : hit t f k ≤ 1 := by unfold hit; split <;> omega

/-- A sum over `m n` numbers, in `n` blocks of `m`. -/
theorem sum_blocks (f : Nat → Nat) (m n : Nat) :
    ∑ k ∈ Finset.range (m * n), f k = ∑ c ∈ Finset.range n, ∑ l ∈ Finset.range m, f (m * c + l) := by
  induction n with
  | zero => simp
  | succ n ih => rw [Nat.mul_succ, Finset.sum_range_add, ih, Finset.sum_range_succ]

/-- A count over `m n` entries, in `n` blocks of `m`. -/
theorem cnt_blocks (t : EReal) (f : Nat → EReal) (m n : Nat) :
    cnt t f (m * n) = ∑ c ∈ Finset.range n, ∑ l ∈ Finset.range m, hit t f (m * c + l) := sum_blocks _ m n

/-- The first `n` entries count like those of a list that agrees there. -/
theorem cnt_congr {t : EReal} {f g : Nat → EReal} {n : Nat} (h : ∀ k < n, f k = g k) : cnt t f n = cnt t g n :=
  Finset.sum_congr rfl fun k hk => by unfold hit; rw [h k (Finset.mem_range.1 hk)]

/-- Every entry is at least `-∞`. -/
theorem cnt_bot (f : Nat → EReal) (n : Nat) : cnt ⊥ f n = n := by simp [cnt, hit]

/-- No entry is counted exactly when every one is below the threshold. -/
theorem cnt_pos {t : EReal} {f : Nat → EReal} {n : Nat} : 0 < cnt t f n ↔ ∃ k < n, t ≤ f k := by
  constructor
  · intro h
    by_contra hc
    have : cnt t f n = 0 := Finset.sum_eq_zero fun k hk => by
      unfold hit; rw [if_neg fun h' => hc ⟨k, Finset.mem_range.1 hk, h'⟩]
    omega
  · rintro ⟨k, hk, hle⟩
    have h1 : hit t f k ≤ cnt t f n := Finset.single_le_sum (fun _ _ => Nat.zero_le _) (Finset.mem_range.2 hk)
    have h2 : hit t f k = 1 := if_pos hle
    omega

/-- Replacing one greatest entry by `-∞` lowers every count by one, down to zero. -/
theorem cnt_remove {t : EReal} (ht : t ≠ ⊥) {f g : Nat → EReal} {n k₀ : Nat} (h₀ : k₀ < n)
    (hmax : ∀ k < n, f k ≤ f k₀) (hg : g k₀ = ⊥) (hne : ∀ k < n, k ≠ k₀ → g k = f k) :
    cnt t g n = cnt t f n - 1 := by
  have e1 : cnt t f n = hit t f k₀ + ∑ k ∈ (Finset.range n).erase k₀, hit t f k :=
    (Finset.add_sum_erase _ _ (Finset.mem_range.2 h₀)).symm
  have e2 : cnt t g n = hit t g k₀ + ∑ k ∈ (Finset.range n).erase k₀, hit t g k :=
    (Finset.add_sum_erase _ _ (Finset.mem_range.2 h₀)).symm
  have e3 : ∑ k ∈ (Finset.range n).erase k₀, hit t g k = ∑ k ∈ (Finset.range n).erase k₀, hit t f k :=
    Finset.sum_congr rfl fun k hk => by
      have hk' := Finset.mem_erase.1 hk
      unfold hit; rw [hne k (Finset.mem_range.1 hk'.2) hk'.1]
  have e4 : hit t g k₀ = 0 := by unfold hit; rw [hg, if_neg fun h => ht (le_bot_iff.1 h)]
  by_cases hle : t ≤ f k₀
  · have : hit t f k₀ = 1 := if_pos hle
    omega
  · have h0 : ¬ 0 < cnt t f n := fun h => by
      obtain ⟨k, hk, hk'⟩ := cnt_pos.1 h
      exact hle (hk'.trans (hmax k hk))
    omega

/-- Two extended reals with the same thresholds below them are equal. -/
theorem eq_of_thresholds {a b : EReal} (h : ∀ t, t ≤ a ↔ t ≤ b) : a = b :=
  le_antisymm ((h a).1 le_rfl) ((h b).2 le_rfl)

/-- The sum of `2 ^ k` consecutive numbers, block number `j`, by repeated halving. -/
def halves (b : Nat → Nat) : Nat → Nat → Nat
  | 0, j => b j
  | k + 1, j => halves b k (2 * j) + halves b k (2 * j + 1)

theorem halves_le {b : Nat → Nat} (hb : ∀ c, b c ≤ 1) : ∀ k j, halves b k j ≤ 2 ^ k
  | 0, j => by simpa [halves] using hb j
  | k + 1, j => by
    have h1 := halves_le hb k (2 * j)
    have h2 := halves_le hb k (2 * j + 1)
    rw [pow_succ]; simp only [halves]; omega

theorem halves_sum (b : Nat → Nat) : halves b 4 0 + halves b 4 1 = ∑ c ∈ Finset.range 32, b c := by
  simp only [halves, Finset.sum_range_succ, Finset.sum_range_zero]; ring

end Cert.TopK

end
-- ==== Proof.Extract.lean ====
/- The repeated extraction of a row's maximum, read at the extended reals: the sixteen extracted entries are the
   sixteen greatest of the row in descending order, equal entries counted as often as they stand there. -/
module

public import proofs.«01_k».proof.Proof.Count
public import Idealize.ShloMosaic.Lib.ValueLayout
public import Idealize.ShloMosaic.Lib.ValueLayoutCasts

@[expose] public section

namespace Cert.TopK

open Idealize.ShloMosaic
open Idealize.ShloMosaic.ValueIdx

/-- The entry at row `r`, column `k`; `-∞` past the last column. -/
noncomputable def ent {n : Nat} (W : FVec Ideal (Sh n) .f32) (r : Fin 512) (k : Nat) : EReal :=
  if h : k < n then W (ix2 r ⟨k, h⟩) else ⊥

theorem ent_lt {n : Nat} (W : FVec Ideal (Sh n) .f32) (r : Fin 512) {k : Nat} (h : k < n) :
    ent W r k = W (ix2 r ⟨k, h⟩) := dif_pos h

/-- The pattern the kernel removes an entry by denotes `-∞`. -/
theorem bot_bits : (Ideal.ofBits .f32 0xFF800000#32 : EReal) = ⊥ := by simp [Ideal.ofBits, Ideal.ieee]

section
variable {n : Nat} [H : Wid n] (W : FVec Ideal (Sh n) .f32) (r : Fin 512)

/-- The row index with a column inserted. -/
theorem lift_ix (k : Fin n) : H.red.lift (ix1 r : Rows.Idx) k = ix2 r k := by
  funext a
  refine Fin.ext ?_
  match a with
  | ⟨0, _⟩ => rfl
  | ⟨1, _⟩ => rfl

/-- A row's maximum is at most a bound exactly when every entry is. -/
theorem redMax_le (c : EReal) : redMax W (ix1 r) ≤ c ↔ ∀ k : Fin n, W (ix2 r k) ≤ c := by
  rw [show redMax W (ix1 r) = _ from Ideal.multiReduction_maximumf_single W 0xFF800000#32 H.red (.inl rfl) rfl (ix1 r),
    Ideal.ofBits_def, bot_bits, Finset.fold_max_le]
  simp only [bot_le, true_and, Finset.mem_univ, true_implies, Function.comp]
  exact forall_congr' fun k => iff_of_eq (congrArg (fun i => W i ≤ c) (lift_ix (n := n) r k))

/-- A row's maximum stands in the row. -/
theorem redMax_mem (hn : 0 < n) : ∃ k : Fin n, W (ix2 r k) = redMax W (ix1 r) := by
  obtain ⟨k, -, hk⟩ := Finset.exists_max_image (Finset.univ : Finset (Fin n)) (fun k => W (ix2 r k))
    ⟨⟨0, hn⟩, Finset.mem_univ _⟩
  exact ⟨k, le_antisymm ((redMax_le W r _).1 le_rfl k) ((redMax_le W r _).2 fun k' => hk k' (Finset.mem_univ _))⟩

theorem rowMax_apply (k : Fin 1) : rowMax W (ix2 r k) = redMax W (ix1 r) := shapeCast_a_a1_apply _ _ _ _

/-- A column of one entry per row, spread over the row, read at an entry. -/
theorem bc_apply {α : Type} (v : (Sh 1).Idx → α) (k : Fin n) : broadcastTo (Sh n) v H.bc (ix2 r k) = v (ix2 r 0) :=
  broadcastTo_apply v H.bc _ _ fun a => by
    match a with
    | ⟨0, _⟩ => rfl
    | ⟨1, _⟩ => rfl

/-- The lane numbers where the row's maximum stands, read as an integer. -/
theorem idxs_toInt (hn : n ≤ 256) (k : Fin n) :
    (idxs W (ix2 r k)).toInt = if W (ix2 r k) = redMax W (ix1 r) then (k.val : Int) else n := by
  have hk := k.isLt
  have e : idxs W (ix2 r k) = if W (ix2 r k) = redMax W (ix1 r) then BitVec.ofNat 32 k.val else BitVec.ofNat 32 n := by
    show Scalar.select (Ideal.cmp .oeq (W (ix2 r k)) (broadcastTo (Sh n) (rowMax W) H.bc (ix2 r k))) (lanes n (ix2 r k))
      (BitVec.ofNat 32 n) = _
    rw [bc_apply, rowMax_apply]
    have hl : lanes n (ix2 r k) = BitVec.ofNat 32 k.val := by
      show BitVec.ofNat 32 (0 * n + k.val) = _
      rw [Nat.zero_mul, Nat.zero_add]
    rw [hl]
    by_cases h : W (ix2 r k) = redMax W (ix1 r)
    · rw [if_pos h]; simp [Ideal.cmp, h, Scalar.select]
    · rw [if_neg h]; simp [Ideal.cmp, h, Scalar.select]
  rw [e]
  split <;> rw [BitVec.toInt_ofNat'] <;> simp only [Int.bmod] <;> omega

/-- A fold of signed minima is at least a bound exactly when the start and each entry are. -/
theorem le_fold_minsi {ι : Type} (c : Int) (acc : BitVec 32) (g : ι → BitVec 32) (s : Finset ι) :
    c ≤ (s.fold IntOp.minsi acc g).toInt ↔ c ≤ acc.toInt ∧ ∀ k ∈ s, c ≤ (g k).toInt := by
  have hm : ∀ x y : BitVec 32, (IntOp.minsi x y).toInt = min x.toInt y.toInt := fun x y => by
    unfold IntOp.minsi
    rw [BitVec.slt_eq_decide]
    by_cases h : x.toInt < y.toInt
    · simp only [h, decide_true, if_true]; omega
    · simp only [h, decide_false]; simp; omega
  induction s using Finset.cons_induction with
  | empty => simp
  | cons a s ha ih =>
    rw [Finset.fold_cons, hm, le_min_iff, Finset.forall_mem_cons]
    exact ⟨fun h => ⟨(ih.1 h.2).1, h.1, (ih.1 h.2).2⟩, fun h => ⟨h.2.1, ih.2 ⟨h.1, h.2.2⟩⟩⟩

/-- The least of the lane numbers is at least a bound exactly when each is. -/
theorem le_minIdx (c : Int) (hc : c ≤ 2147483647) :
    c ≤ (minIdx W (ix1 r)).toInt ↔ ∀ k : Fin n, c ≤ (idxs W (ix2 r k)).toInt := by
  rw [show minIdx W (ix1 r) = _ from multiReductionI_eq_fold .minsi (idxs W) 2147483647#32 H.red rfl (ix1 r), H.red.fold_filter_drop_single]
  refine (le_fold_minsi c _ _ _).trans ⟨fun h k => ?_, fun h => ⟨hc, fun k _ => ?_⟩⟩
  · exact (h.2 k (Finset.mem_univ _)).trans_eq (congrArg (fun i => (idxs W i).toInt) (lift_ix (n := n) r k))
  · exact (h k).trans_eq (congrArg (fun i => (idxs W i).toInt) (lift_ix (n := n) r k)).symm

/-- One extraction removes one greatest entry of the row and leaves the others. -/
theorem next_spec (h0 : 0 < n) (hn : n ≤ 256) :
    ∃ k₀ < n, ent W r k₀ = redMax W (ix1 r) ∧ ent (next W) r k₀ = ⊥ ∧
      ∀ k < n, k ≠ k₀ → ent (next W) r k = ent W r k := by
  classical
  have hex : ∃ k : Nat, ∃ h : k < n, W (ix2 r ⟨k, h⟩) = redMax W (ix1 r) := by
    obtain ⟨k, hk⟩ := redMax_mem W r h0
    exact ⟨k.val, k.isLt, hk⟩
  obtain ⟨hlt, heq⟩ := Nat.find_spec hex
  have hmin : ∀ k : Fin n, W (ix2 r k) = redMax W (ix1 r) → Nat.find hex ≤ k.val := fun k hk =>
    Nat.find_min' hex ⟨k.isLt, hk⟩
  generalize Nat.find hex = k₀ at hlt heq hmin
  have hm : (minIdx W (ix1 r)).toInt = k₀ := by
    apply le_antisymm
    · have h := (le_minIdx W r (min (minIdx W (ix1 r)).toInt 2147483647) (by omega)).1 (by omega) ⟨k₀, hlt⟩
      rw [idxs_toInt W r hn, if_pos heq] at h
      have : ((⟨k₀, hlt⟩ : Fin n).val : Int) = k₀ := rfl
      omega
    · refine (le_minIdx W r k₀ (by omega)).2 fun k => ?_
      rw [idxs_toInt W r hn]
      split
      · rename_i h; have := hmin k h; omega
      · omega
  have hf : ∀ k : Fin n, next W (ix2 r k) = if k.val = k₀ then ⊥ else W (ix2 r k) := fun k => by
    have e : next W (ix2 r k) = Scalar.select (IntOp.cmpi .eq (idxs W (ix2 r k))
        (broadcastTo (Sh n) (shapeCast (Sh 1) (minIdx W) (by decide)) H.bc (ix2 r k)))
        (Ideal.ofBits .f32 0xFF800000#32) (W (ix2 r k)) := rfl
    rw [e, bc_apply, shapeCast_a_a1_apply, bot_bits]
    have hiff : idxs W (ix2 r k) = minIdx W (ix1 r) ↔ k.val = k₀ := by
      rw [← BitVec.toInt_inj, hm, idxs_toInt W r hn]
      by_cases h : W (ix2 r k) = redMax W (ix1 r)
      · rw [if_pos h]; omega
      · rw [if_neg h]
        constructor
        · intro h'; omega
        · intro h'; exact absurd (by subst h'; exact heq) h
    by_cases h : k.val = k₀
    · rw [if_pos h]; simp [IntOp.cmpi, hiff.2 h, Scalar.select]
    · rw [if_neg h]
      have : idxs W (ix2 r k) ≠ minIdx W (ix1 r) := fun h' => h (hiff.1 h')
      simp [IntOp.cmpi, beq_false_of_ne this, Scalar.select]
  refine ⟨k₀, hlt, ?_, ?_, fun k hk hne => ?_⟩
  · rw [ent_lt _ _ hlt, heq]
  · rw [ent_lt _ _ hlt, hf, if_pos rfl]
  · rw [ent_lt _ _ hk, ent_lt _ _ hk, hf, if_neg hne]

/-- A threshold is at most the row's maximum exactly when it counts an entry. -/
theorem le_redMax (h0 : 0 < n) (t : EReal) : t ≤ redMax W (ix1 r) ↔ 0 < cnt t (ent W r) n := by
  rw [cnt_pos]
  constructor
  · intro h
    obtain ⟨k, hk⟩ := redMax_mem W r h0
    exact ⟨k.val, k.isLt, by rw [ent_lt _ _ k.isLt, hk]; exact h⟩
  · rintro ⟨k, hk, h⟩
    rw [ent_lt _ _ hk] at h
    exact h.trans ((redMax_le W r _).1 le_rfl _)

/-- After `j` extractions every count has gone down by `j`. -/
theorem cnt_work (h0 : 0 < n) (hn : n ≤ 256) {t : EReal} (ht : t ≠ ⊥) (j : Nat) :
    cnt t (ent (work W j) r) n = cnt t (ent W r) n - j := by
  induction j with
  | zero => rfl
  | succ j ih =>
    obtain ⟨k₀, h₀, hk, hb, hne⟩ := next_spec (work W j) r h0 hn
    have := cnt_remove ht (f := ent (work W j) r) (g := ent (next (work W j)) r) h₀
      (fun k hk' => by rw [hk, ent_lt _ _ hk']; exact (redMax_le _ r _).1 le_rfl _) hb hne
    show cnt t (ent (next (work W j)) r) n = _
    omega

/-- The maximum taken after `j` extractions is at least a threshold exactly when more than `j` entries are. -/
theorem le_redMax_work (h0 : 0 < n) (hn : n ≤ 256) (t : EReal) {j : Nat} (hj : j < n) :
    t ≤ redMax (work W j) (ix1 r) ↔ j < cnt t (ent W r) n := by
  by_cases ht : t = ⊥
  · subst ht; rw [cnt_bot]; exact ⟨fun _ => hj, fun _ => bot_le⟩
  · rw [le_redMax _ r h0, cnt_work W r h0 hn ht]; omega

end

end Cert.TopK

end
-- ==== Proof.Local.lean ====
/- One device's part read at the extended reals. The entry at position `j` of what a device extracts from its block is at
   least a threshold exactly when more than `j` entries of its row of 4096 are; and the entry at position `j` of what is
   extracted from the four devices' sixteen each is at least a threshold exactly when more than `j` entries of the four
   rows together are. -/
module

public import proofs.«01_k».proof.Proof.Extract
public import Idealize.ShloMosaic.Lib.Pipeline.Value

@[expose] public section

namespace Cert.TopK

open Idealize.ShloMosaic
open Idealize.ShloMosaic.ValueIdx

/-! ## The merges at one entry and one threshold -/

/-- The truth values of a list of blocks at one entry: is the entry at least the threshold? -/
noncomputable def bits (t : EReal) (r : Fin 512) (l : Nat) (f : Nat → FVec Ideal (Sh 128) .f32) (i : Nat) : Bool :=
  decide (t ≤ ent (f i) r l)

section
variable (t : EReal) (r : Fin 512) (l : Nat)

theorem ent_max {n : Nat} (a b : FVec Ideal (Sh n) .f32) : ent (maximumf a b) r l = max (ent a r l) (ent b r l) := by
  unfold ent
  split
  · rfl
  · exact (max_self _).symm

theorem ent_min {n : Nat} (a b : FVec Ideal (Sh n) .f32) : ent (minimumf a b) r l = min (ent a r l) (ent b r l) := by
  unfold ent
  split
  · rfl
  · exact (min_self _).symm

/-- A stage of compare-exchanges, on truth values. -/
theorem bits_ce (d : Nat) (f : Nat → FVec Ideal (Sh 128) .f32) : bits t r l (ce d f) = ceB d (bits t r l f) := by
  funext i
  unfold bits ceB ce
  rcases Nat.beq (i / d % 2) 0 with _ | _
  · simp only [cond_false, ent_min, le_min_iff, Bool.decide_and]
  · simp only [cond_true, ent_max, le_max_iff, Bool.decide_or]

/-- Joining two lists, on truth values. -/
theorem bits_join (k : Nat) (A B : Nat → FVec Ideal (Sh 128) .f32) :
    bits t r l (join k A B) = joinB k (bits t r l A) (bits t r l B) := by
  funext i
  unfold bits joinB join
  rcases Nat.blt i k with _ | _ <;> rfl

/-- The entries of the chunks at one row and lane that are at least the threshold. -/
noncomputable def lane (x : Nat → FVec Ideal (Sh 128) .f32) (l : Nat) : Nat := cnt t (fun c => ent (x c) r l) 32

variable (x : Nat → FVec Ideal (Sh 128) .f32)

/-- Whether chunk `c`'s entry is at least the threshold. -/
noncomputable abbrev one (c : Nat) : Nat := hit t (fun c => ent (x c) r l) c

theorem run_chunk (c : Nat) : Run 1 (bits t r l fun _ => x c) (one t r l x c) := by
  intro i hi
  obtain rfl : i = 0 := by omega
  unfold bits one hit
  by_cases h : t ≤ ent (x c) r l <;> simp [h]

theorem run_m1 (j : Nat) : Run 2 (bits t r l (m1_1 x j)) (halves (one t r l x) 1 j) := by
  have e : bits t r l (m1_1 x j) = merge1 (bits t r l fun _ => x (2 * j)) (bits t r l fun _ => x (2 * j + 1)) := by
    unfold m1_1 merge1; rw [bits_ce, bits_join]
  rw [e]
  exact merge1_run (run_chunk t r l x _) (run_chunk t r l x _) (hit_le_one _ _ _) (hit_le_one _ _ _)

theorem half_le (k j : Nat) : halves (one t r l x) k j ≤ 2 ^ k := halves_le (fun c => hit_le_one _ _ c) k j

theorem run_m2 (j : Nat) : Run 4 (bits t r l (m2_1 x j)) (halves (one t r l x) 2 j) := by
  have e : bits t r l (m2_1 x j) = merge2 (bits t r l (m1_1 x (2 * j))) (bits t r l (m1_1 x (2 * j + 1))) := by
    unfold m2_1 m2_2 merge2; simp only [bits_ce, bits_join]
  rw [e]
  exact merge2_run (run_m1 t r l x _) (run_m1 t r l x _) (half_le t r l x 1 _) (half_le t r l x 1 _)

theorem run_m4 (j : Nat) : Run 8 (bits t r l (m4_1 x j)) (halves (one t r l x) 3 j) := by
  have e : bits t r l (m4_1 x j) = merge4 (bits t r l (m2_1 x (2 * j))) (bits t r l (m2_1 x (2 * j + 1))) := by
    unfold m4_1 m4_2 m4_4 merge4; simp only [bits_ce, bits_join]
  rw [e]
  exact merge4_run (run_m2 t r l x _) (run_m2 t r l x _) (half_le t r l x 2 _) (half_le t r l x 2 _)

theorem run_m8 (j : Nat) : Run 16 (bits t r l (m8_1 x j)) (halves (one t r l x) 4 j) := by
  have e : bits t r l (m8_1 x j) = merge8 (bits t r l (m4_1 x (2 * j))) (bits t r l (m4_1 x (2 * j + 1))) := by
    unfold m8_1 m8_2 m8_4 m8_8 merge8; simp only [bits_ce, bits_join]
  rw [e]
  exact merge8_run (run_m4 t r l x _) (run_m4 t r l x _) (half_le t r l x 3 _) (half_le t r l x 3 _)

/-- The list of 16 at each lane counts the 32 chunks' entries there. -/
theorem run_t1 : Run 16 (bits t r l (t1 x)) (lane t r x l) := by
  have e : bits t r l (t1 x) = fold16 (bits t r l (m8_1 x 0)) (bits t r l (m8_1 x 1)) := by
    unfold t1 t2 t4 t8 fold16; simp only [bits_ce]
    congr 4; funext i; unfold bits t0; rw [ent_max]; simp only [le_max_iff, Bool.decide_or]
  rw [e]
  have h := fold16_run (run_m8 t r l x 0) (run_m8 t r l x 1)
  rwa [halves_sum] at h

/-! ## The folding of the lanes -/

/-- Lane `l` of the rotation by `h` is lane `l + h` modulo 128. -/
theorem ent_lroll (h : Nat) [H : Roll h] (h128 : h ≤ 128) (a : FVec Ideal (Sh 128) .f32) (hl : l < 128) :
    ent (lroll h a) r l = ent a r ((l + h) % 128) := by
  rw [ent_lt _ _ hl, ent_lt _ _ (Nat.mod_lt _ (by omega))]
  unfold lroll lrollOf
  by_cases hlt : l < 128 - h
  · refine (concatenate_pair_apply_left (t := Sh 128) 1 _ _ H.cat (ix2 r ⟨l, hl⟩) rfl (ix2 r ⟨l, hlt⟩) fun b => ?_).trans ?_
    · match b with
      | ⟨0, _⟩ => rfl
      | ⟨1, _⟩ => rfl
    · exact slice2_axis1_apply h a H.hi r _ _ (by show (l + h) % 128 = h + l; omega)
  · refine (concatenate_pair_apply_right (t := Sh 128) 1 _ _ H.cat (ix2 r ⟨l, hl⟩) rfl rfl (ix2 r ⟨l - (128 - h), by omega⟩)
      (fun b hb => ?_) ?_).trans ?_
    · match b with
      | ⟨0, _⟩ => rfl
      | ⟨1, _⟩ => exact absurd rfl hb
    · show l - (128 - h) + (128 - h) = l; omega
    · exact slice2_axis1_apply 0 a H.lo r _ _ (by show (l + h) % 128 = 0 + (l - (128 - h)); omega)

/-- Folding each lane with the lane `h` further on adds the two lanes' counts. -/
theorem run_roll (h : Nat) [Roll h] (h128 : h ≤ 128) (f g : Nat → FVec Ideal (Sh 128) .f32) {C : Nat → Nat}
    (hf : ∀ l < 128, Run 16 (bits t r l f) (C l))
    (hg : g = ce 1 (ce 2 (ce 4 (ce 8 fun i => maximumf (f i) (lroll h (f (15 - i)))))))
    (hl : l < 128) : Run 16 (bits t r l g) (C l + C ((l + h) % 128)) := by
  have e : bits t r l g = fold16 (bits t r l f) (bits t r ((l + h) % 128) f) := by
    subst hg
    unfold fold16; rw [bits_ce, bits_ce, bits_ce, bits_ce]
    congr 4; funext i; unfold bits; rw [ent_max, ent_lroll r l h h128 _ hl]; simp only [le_max_iff, Bool.decide_or]
  rw [e]
  exact fold16_run (hf l hl) (hf _ (Nat.mod_lt _ (by omega)))

/-- The count of a lane after its fold with the lane `h` further on. -/
def roll (h : Nat) (C : Nat → Nat) (l : Nat) : Nat := C l + C ((l + h) % 128)

theorem run_r16 (hl : l < 128) : Run 16 (bits t r l (r16_1 x)) (roll 16 (roll 32 (roll 64 (lane t r x))) l) :=
  run_roll t r l 16 (by omega) (r32_1 x) (r16_1 x)
    (fun l hl => run_roll t r l 32 (by omega) (r64_1 x) (r32_1 x)
      (fun l hl => run_roll t r l 64 (by omega) (t1 x) (r64_1 x) (fun l _ => run_t1 t r l x) rfl hl) rfl hl) rfl hl

/-- The 16 folded lanes count what the 128 lanes do. -/
theorem roll_sum (C : Nat → Nat) :
    ∑ l ∈ Finset.range 16, roll 16 (roll 32 (roll 64 C)) l = ∑ l ∈ Finset.range 128, C l := by
  rw [show (128 : Nat) = 16 * 8 from rfl, sum_blocks C 16 8, Finset.sum_comm]
  refine Finset.sum_congr rfl fun l hl => ?_
  have hl' := Finset.mem_range.1 hl
  simp only [Finset.sum_range_succ, Finset.sum_range_zero, roll, Nat.zero_add]
  have e : ∀ a b, (l + a + b) % 128 = (l + (a + b)) % 128 := fun a b => by rw [Nat.add_assoc]
  have m : ∀ a, a ≤ 112 → (l + a) % 128 = a + l := fun a ha => by omega
  simp only [Nat.mod_add_mod, e]
  simp only [Nat.reduceAdd, Nat.reduceMul, m 16 (by omega), m 32 (by omega), m 48 (by omega), m 64 (by omega), m 80 (by omega),
    m 96 (by omega), m 112 (by omega), Nat.zero_add]
  omega

end

/-! ## Counts cut at sixteen -/

/-- A run of `c` trues among `n` counts the lesser of the two. -/
theorem sum_lt (c n : Nat) : (∑ j ∈ Finset.range n, if j < c then 1 else 0) = min c n := by
  induction n with
  | zero => simp
  | succ n ih => rw [Finset.sum_range_succ, ih]; split <;> omega

/-- Below sixteen a sum of counts cut at sixteen is the sum of the counts. -/
theorem lt_sum_min (f : Nat → Nat) (n : Nat) {j : Nat} (hj : j < 16) :
    j < ∑ l ∈ Finset.range n, min (f l) 16 ↔ j < ∑ l ∈ Finset.range n, f l := by
  have h : min (∑ l ∈ Finset.range n, min (f l) 16) 16 = min (∑ l ∈ Finset.range n, f l) 16 := by
    induction n with
    | zero => rfl
    | succ n ih => rw [Finset.sum_range_succ, Finset.sum_range_succ]; omega
  omega

/-- Equal pieces side by side read at an entry: the piece and the entry in it. -/
theorem cat_apply {w m N : Nat} (hm : 0 < m) (f : Fin N → FVec Ideal (Sh m) .f32)
    (h : Shape.Concatenates ((List.ofFn fun i : Fin N => (⟨Sh m, f i⟩ : (s : Shape) × (s.Idx → Ideal .f32))).map (·.1)) (Sh w) 1)
    (r : Fin 512) {c l : Nat} (hc : c < N) (hl : l < m) (hk : m * c + l < w) :
    ent (concatenate (Sh w) 1 (List.ofFn fun i : Fin N => (⟨Sh m, f i⟩ : (s : Shape) × (s.Idx → Ideal .f32))) h) r (m * c + l)
      = ent (f ⟨c, hc⟩) r l := by
  rw [ent_lt _ _ hk, ent_lt _ _ hl]
  refine concatenate_ofFn_apply (t := Sh w) 1 f h rfl m rfl _ ⟨c, hc⟩ ?_ (ix2 r ⟨l, hl⟩) ?_ fun b hb => ?_
  · show (m * c + l) / m = c
    rw [Nat.mul_add_div hm, Nat.div_eq_of_lt hl, Nat.add_zero]
  · show l = (m * c + l) % m
    rw [Nat.mul_add_mod, Nat.mod_eq_of_lt hl]
  · match b with
    | ⟨0, _⟩ => rfl
    | ⟨1, _⟩ => exact absurd rfl hb

/-- The extracted entries: position `j` is at least a threshold exactly when more than `j` entries of the row are. -/
theorem le_top16 {n : Nat} [H : Wid n] (hn : n ≤ 256) (h16 : 16 ≤ n) (W : FVec Ideal (Sh n) .f32) (t : EReal) (r : Fin 512)
    {j : Nat} (hj : j < 16) : t ≤ ent (top16 W) r j ↔ j < cnt t (ent W r) n := by
  have e : ent (top16 W) r j = redMax (work W j) (ix1 r) := by
    have h := cat_apply (w := 16) (m := 1) (N := 16) Nat.one_pos (fun i => rowMax (work W i.val)) cat_top16 r (c := j) (l := 0) hj
      Nat.one_pos (by omega)
    rw [show 1 * j + 0 = j by omega] at h
    exact h.trans ((ent_lt _ _ Nat.one_pos).trans (rowMax_apply _ r 0))
  rw [e]
  exact le_redMax_work W r (by omega) hn t (by omega)

/-- Position `16 j + l` of the candidate row is lane `l` of the list's position `j`. -/
theorem ent_cand (x : Nat → FVec Ideal (Sh 128) .f32) (r : Fin 512) {j l : Nat} (hj : j < 16) (hl : l < 16) :
    ent (cand x) r (16 * j + l) = ent (r16_1 x j) r l := by
  refine (cat_apply (w := 256) (m := 16) (N := 16) (by omega) (fun i => lanes16 (r16_1 x i.val)) cat_cand r hj hl (by omega)).trans ?_
  rw [ent_lt _ _ hl, ent_lt _ _ (show l < 128 by omega)]
  exact slice2_axis1_apply 0 _ _ r _ _ (Nat.zero_add _).symm

/-- Column `l` of chunk `c` is column `128 c + l` of the block. -/
theorem ent_chunk (X : FVec Ideal (Sh 4096) .f32) (r : Fin 512) {c l : Nat} (hc : c < 32) (hl : l < 128) :
    ent (chunk X c) r l = ent X r (128 * c + l) := by
  rw [ent_lt _ _ hl, ent_lt _ _ (show 128 * c + l < 4096 by omega)]
  exact slice2_axis1_apply (128 * (c % 32)) X (chunk_slices c) r _ _ (by
    show 128 * c + l = 128 * (c % 32) + l
    rw [Nat.mod_eq_of_lt hc])

/-- **One device**: position `j` of its sixteen is at least a threshold exactly when more than `j` entries of its row
    are. -/
theorem le_local (X : FVec Ideal (Sh 4096) .f32) (t : EReal) (r : Fin 512) {j : Nat} (hj : j < 16) :
    t ≤ ent (top16 (cand (chunk X))) r j ↔ j < cnt t (ent X r) 4096 := by
  rw [le_top16 (by omega) (by omega) _ t r hj]
  have e1 : cnt t (ent (cand (chunk X)) r) 256
      = ∑ l ∈ Finset.range 16, min (roll 16 (roll 32 (roll 64 (lane t r (chunk X)))) l) 16 := by
    refine (cnt_blocks t _ 16 16).trans ?_
    rw [Finset.sum_comm]
    refine Finset.sum_congr rfl fun l hl => ?_
    have hl' := Finset.mem_range.1 hl
    rw [← sum_lt]
    refine Finset.sum_congr rfl fun i hi => ?_
    have hi' := Finset.mem_range.1 hi
    have hrun := run_r16 t r l (chunk X) (by omega) i hi'
    unfold bits at hrun
    unfold hit
    rw [ent_cand _ r hi' hl']
    exact if_congr (decide_eq_decide.1 hrun) rfl rfl
  have e2 : ∑ l ∈ Finset.range 128, lane t r (chunk X) l = cnt t (ent X r) 4096 := by
    refine Eq.trans ?_ (cnt_blocks t _ 128 32).symm
    unfold lane cnt
    rw [Finset.sum_comm]
    refine Finset.sum_congr rfl fun c hc => Finset.sum_congr rfl fun l hl => ?_
    unfold hit
    beta_reduce
    rw [ent_chunk X r (Finset.mem_range.1 hc) (Finset.mem_range.1 hl)]
  rw [e1, lt_sum_min _ _ hj, roll_sum, e2]

/-- A slot's block, read at an entry. -/
theorem ent_slot (a : FVec Ideal (Sh 16) .f32) (h₁ : (Sh 16).ShapeCasts ⟨3, ![1, 512, 16]⟩)
    (h₂ : (⟨3, ![1, 512, 16]⟩ : Shape).ShapeCasts (Sh 16)) : shapeCast (Sh 16) (shapeCast ⟨3, ![1, 512, 16]⟩ a h₁) h₂ = a :=
  shapeCast_shapeCast _ _ _

/-- **The four devices together**: if each slot's position `i` tells whether more than `i` of `N c` entries are at least a
    threshold, then position `j` of the result tells whether more than `j` of all are. -/
theorem le_final (a : Fin 4 → FVec Ideal ⟨3, ![1, 512, 16]⟩ .f32) (t : EReal) (r : Fin 512) (N : Nat → Nat)
    (h : ∀ c : Fin 4, ∀ i < 16, t ≤ ent (shapeCast (Sh 16) (a c) (by decide)) r i ↔ i < N c) {j : Nat} (hj : j < 16) :
    t ≤ ent (top16 (gathered (a 0) (a 1) (a 2) (a 3))) r j ↔ j < ∑ c ∈ Finset.range 4, N c := by
  rw [le_top16 (by omega) (by omega) _ t r hj]
  have e : cnt t (ent (gathered (a 0) (a 1) (a 2) (a 3)) r) 64 = ∑ c ∈ Finset.range 4, min (N c) 16 := by
    refine (cnt_blocks t _ 16 4).trans ?_
    refine Finset.sum_congr rfl fun c hc => ?_
    have hc' := Finset.mem_range.1 hc
    rw [← sum_lt]
    refine Finset.sum_congr rfl fun i hi => ?_
    have hi' := Finset.mem_range.1 hi
    have hcat : ent (gathered (a 0) (a 1) (a 2) (a 3)) r (16 * c + i)
        = ent (shapeCast (Sh 16) (a ⟨c, hc'⟩) (by decide)) r i :=
      cat_apply (w := 64) (m := 16) (N := 4) (by omega) (fun c => shapeCast (Sh 16) (a c) (by decide)) cat_gathered r hc' hi'
        (by omega)
    unfold hit
    rw [hcat]
    exact if_congr (h ⟨c, hc'⟩ i hi') rfl rfl
  rw [e, lt_sum_min _ _ hj]

end Cert.TopK

end
-- ==== Proof.Reference.lean ====
/- The reference's result read at the extended reals: the stable sort of the negated row puts the row's entries in
   descending order, the first sixteen positions name columns inside the array, and the entries read there are the
   row's sixteen greatest: position `j` is at least a threshold exactly when more than `j` entries of the row are. -/
module

public import proofs.«01_k».proof.Proof.Gen.ReferenceIdeal.Run
public import proofs.«01_k».proof.Proof.Local
public import Idealize.ShloMosaic.Lib.SortFacts

@[expose] public section

noncomputable section

namespace Cert.ReferenceIdeal.Top

open Cert.ReferenceIdeal Cert.ReferenceIdeal.Gen Cert.TopK Idealize.ShloMosaic Idealize.ShloMosaic.ValueIdx

/-- The comparator orders by the keys alone. -/
theorem comparator_eq (p q : Ideal .f32 × BitVec 32) : comparator_f32_i32_d1 p q = Ideal.cmp .olt p.1 q.1 := by
  have h0 : (FloatOps.ofBits (F := Ideal) .f32 0x00000000#32 : EReal) = 0 := Ideal.ofBits_zero_f32
  have hsel : ∀ a : Ideal .f32, Scalar.select (Ideal.cmp .oeq a (0 : EReal)) (0 : EReal) a = a := fun a => by
    by_cases h : (a : EReal) = 0
    · simp [Ideal.cmp, h, Scalar.select]
    · simp [Ideal.cmp, h, Scalar.select]
  have hne : ∀ a b : Ideal .f32, Scalar.select (Ideal.cmp .une a a) b a = a := fun a b => by
    simp [Ideal.cmp, Scalar.select]
  show Ideal.cmp .olt
      (Scalar.select (Ideal.cmp .une p.1 p.1) _ (Scalar.select (Ideal.cmp .oeq p.1 (FloatOps.ofBits (F := Ideal) .f32 0x00000000#32)) (FloatOps.ofBits (F := Ideal) .f32 0x00000000#32) p.1))
      (Scalar.select (Ideal.cmp .une q.1 q.1) _ (Scalar.select (Ideal.cmp .oeq q.1 (FloatOps.ofBits (F := Ideal) .f32 0x00000000#32)) (FloatOps.ofBits (F := Ideal) .f32 0x00000000#32) q.1)) = _
  rw [h0, hsel, hsel, hne, hne]

variable (x : FVec Ideal (Sh 16384) .f32) (r : Fin 512)

/-- Column `k` sorts strictly before column `k'` of row `r`: its negated entry is the lesser. -/
def before (k k' : Fin 16384) : Bool := decide (-(x (ix2 r k)) < (-(x (ix2 r k')) : EReal))

/-- The column whose entry the sort puts at a position. -/
def col : Fin 16384 → Fin 16384 := sortedFrom (before x r)

/-- The row's entries in the order the sort puts them. -/
def sorted : FVec Ideal (Sh 16384) .f32 := fun i => x (ix2 r (col x r (show Fin 16384 from i 1)))

/-- The sort puts every column at exactly one position. -/
theorem col_bijective : Function.Bijective (col x r) := ⟨sortedFrom_injective _, sortedFrom_surjective _⟩

/-- The sorted row is in descending order. -/
theorem col_antitone (i j : Fin 16384) (h : i < j) : (x (ix2 r (col x r j)) : EReal) ≤ x (ix2 r (col x r i)) := by
  have hn := sortedFrom_noInversion (before x r) (before x r)
    (fun a b hab => by
      unfold before at hab ⊢
      exact decide_eq_false (not_lt.2 (le_of_lt (of_decide_eq_true hab))))
    (fun a b hab => hab)
    (fun a b c hab hbc => by
      unfold before at hab hbc ⊢
      exact decide_eq_false (not_lt.2 ((not_lt.1 (of_decide_eq_false hbc)).trans (not_lt.1 (of_decide_eq_false hab)))))
    i j h
  exact EReal.neg_le_neg_iff.1 (not_lt.1 (of_decide_eq_false hn))

/-- A downward closed set of positions is counted by its size. -/
theorem lt_count (p : Nat → Prop) [DecidablePred p] (n : Nat) (h : ∀ i j, i < j → j < n → p j → p i) :
    (∑ k ∈ Finset.range n, if p k then 1 else 0) ≤ n ∧
      ∀ j < n, (p j ↔ j < ∑ k ∈ Finset.range n, if p k then 1 else 0) := by
  induction n with
  | zero => exact ⟨by simp, fun j hj => by omega⟩
  | succ n ih =>
    obtain ⟨hle, hi⟩ := ih fun i j hij hj => h i j hij (by omega)
    rw [Finset.sum_range_succ]
    by_cases hp : p n
    · have hall : (∑ k ∈ Finset.range n, if p k then 1 else 0) = n := by
        rw [Finset.sum_congr rfl fun k hk => if_pos (h k n (Finset.mem_range.1 hk) (by omega) hp)]; simp
      rw [hall, if_pos hp]
      refine ⟨le_rfl, fun j hj => ⟨fun _ => hj, fun _ => ?_⟩⟩
      rcases Nat.lt_succ_iff_lt_or_eq.1 hj with h' | rfl
      · exact h j n h' (by omega) hp
      · exact hp
    · rw [if_neg hp, Nat.add_zero]
      refine ⟨by omega, fun j hj => ?_⟩
      rcases Nat.lt_succ_iff_lt_or_eq.1 hj with h' | rfl
      · exact hi j h'
      · exact ⟨fun h' => absurd h' hp, fun h' => by omega⟩

theorem ent_sorted (k : Fin 16384) : ent (sorted x r) r k.val = x (ix2 r (col x r k)) := ent_lt _ _ k.isLt

/-- Position `j` of the sorted row is at least a threshold exactly when more than `j` entries of the row are. -/
theorem le_sorted (t : EReal) (j : Fin 16384) : t ≤ x (ix2 r (col x r j)) ↔ j.val < cnt t (ent x r) 16384 := by
  have hsum : cnt t (ent x r) 16384 = ∑ k ∈ Finset.range 16384, if t ≤ ent (sorted x r) r k then 1 else 0 := by
    unfold cnt hit
    rw [Finset.sum_range, Finset.sum_range, ← (col_bijective x r).sum_comp]
    exact Finset.sum_congr rfl fun k _ => if_congr (by rw [ent_sorted x r k, ent_lt x r (col x r k).isLt]) rfl rfl
  have h := (lt_count (fun k => t ≤ ent (sorted x r) r k) 16384 fun i j hij hj hp => by
    have hi := ent_sorted x r ⟨i, hij.trans hj⟩
    have hj' := ent_sorted x r ⟨j, hj⟩
    show t ≤ ent (sorted x r) r i
    rw [show ent (sorted x r) r i = _ from hi]
    rw [show ent (sorted x r) r j = _ from hj'] at hp
    exact hp.trans (col_antitone x r _ _ hij)).2 j.val j.isLt
  rw [hsum, ← h, ent_sorted x r j]

/-- The sort of the column numbers along the negated rows names, at each position, the column the sort puts there. -/
theorem sort_cols (j : Fin 16384) :
    (Host.sort2 S512x16384 1 (comparator_f32_i32_d1 (F := Ideal)) (Host.negf x) (iotaInDim S512x16384 32 1)).2 (ix2 r j)
      = BitVec.ofNat 32 (col x r j).val := by
  have ha : ∀ k : Fin 16384, Shape.Idx.along (s := S512x16384) (ix2 r j) 1 k = ix2 r k := fun k => by
    funext a
    match a with
    | ⟨0, _⟩ => rfl
    | ⟨1, _⟩ => rfl
  have hb : (fun k k' : Fin 16384 => comparator_f32_i32_d1 (F := Ideal)
        (Host.negf x (Shape.Idx.along (s := S512x16384) (ix2 r j) 1 k), iotaInDim S512x16384 32 1 (Shape.Idx.along (s := S512x16384) (ix2 r j) 1 k))
        (Host.negf x (Shape.Idx.along (s := S512x16384) (ix2 r j) 1 k'), iotaInDim S512x16384 32 1 (Shape.Idx.along (s := S512x16384) (ix2 r j) 1 k')) == 1#1)
      = before x r := by
    funext k k'
    rw [comparator_eq, ha, ha]
    show (BitVec.ofBool (before x r k k') == 1#1) = _
    rcases before x r k k' with _ | _ <;> rfl
  have e : (Host.sort2 S512x16384 1 (comparator_f32_i32_d1 (F := Ideal)) (Host.negf x) (iotaInDim S512x16384 32 1)).2 (ix2 r j)
      = iotaInDim S512x16384 32 1 (Shape.Idx.along (s := S512x16384) (ix2 r j) 1 (sortedFrom (fun k k' : Fin 16384 => comparator_f32_i32_d1 (F := Ideal)
        (Host.negf x (Shape.Idx.along (s := S512x16384) (ix2 r j) 1 k), iotaInDim S512x16384 32 1 (Shape.Idx.along (s := S512x16384) (ix2 r j) 1 k))
        (Host.negf x (Shape.Idx.along (s := S512x16384) (ix2 r j) 1 k'), iotaInDim S512x16384 32 1 (Shape.Idx.along (s := S512x16384) (ix2 r j) 1 k')) == 1#1) j)) := rfl
  rw [e, hb]
  exact (congrArg (iotaInDim S512x16384 32 1) (ha (col x r j))).trans rfl

/-! ## Reading the entries at the named columns -/

/-- A fold of "and" over ones is one. -/
theorem fold_andi_one {ι : Type} (s : Finset ι) (g : ι → BitVec 1) (h : ∀ i ∈ s, g i = 1#1) : s.fold IntOp.andi 1#1 g = 1#1 := by
  induction s using Finset.cons_induction with
  | empty => rfl
  | cons a s ha ih =>
    rw [Finset.fold_cons, h a (Finset.mem_cons_self _ _), ih fun i hi => h i (Finset.mem_cons_of_mem hi)]
    rfl

/-- The gather read at `(i, j)`: the operand's row `i` at the start index there, read signed and cut to the row. -/
theorem gather_apply (idx : IVec S512x16x1 32) (i : Fin 512) (j : Fin 16) :
    Host.gather gather_S512x16384_S512x16x1_S512x16_n_1_0_0_1_2_11 x idx (ix2 i j)
      = x (ix2 i ⟨min (idx (ix3 i j 0)).toInt.toNat 16383, by omega⟩) := by
  unfold Host.gather
  congr 1
  funext a
  refine Fin.ext ?_
  show GatherDims.start _ (ix2 i j) idx a + GatherDims.batchCoord _ (ix2 i j) a + GatherDims.offCoord _ (ix2 i j) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    exact (dif_pos (show (0 : Fin S512x16384.rank) ∈ gather_S512x16384_S512x16x1_S512x16_n_1_0_0_1_2_11.operandBatchingDims from List.mem_singleton.mpr rfl)).trans rfl
  | ⟨1, _⟩ =>
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    refine (dif_pos (show (1 : Fin S512x16384.rank) ∈ gather_S512x16384_S512x16x1_S512x16_n_1_0_0_1_2_11.startIndexMap from List.mem_singleton.mpr rfl)).trans ?_
    refine congrArg (fun y => min (idx y).toInt.toNat 16383) (funext fun b => Fin.ext ?_)
    match b with
    | ⟨0, _⟩ => rfl
    | ⟨1, _⟩ => rfl
    | ⟨2, _⟩ => rfl

/-- The entries taken at positions inside the row: the mask of positions outside is nowhere, and no column number is
    negative, so the entry is the row's at that column. -/
theorem take_value (SL : IVec S512x16 32) (σ : Fin 512 → Fin 16 → Fin 16384)
    (h : ∀ i j, SL (ix2 i j) = BitVec.ofNat 32 (σ i j).val) (i : Fin 512) (j : Fin 16) :
    select (Host.reduce IntOp.andi (andi (cmpi .sge (shapeCast S512x16x1 (select (cmpi .slt SL (broadcastInDim S512x16 ![] bcast_S_S512x16 (constantI S_ 32 0#32))) (addi SL (broadcastInDim S512x16 ![] bcast_S_S512x16 (constantI S_ 32 16384#32))) SL) shapeCasts_S512x16_S512x16x1) (broadcastInDim S512x16x1 ![] bcast_S_S512x16x1 (constantI S_ 32 0#32))) (cmpi .sle (shapeCast S512x16x1 (select (cmpi .slt SL (broadcastInDim S512x16 ![] bcast_S_S512x16 (constantI S_ 32 0#32))) (addi SL (broadcastInDim S512x16 ![] bcast_S_S512x16 (constantI S_ 32 16384#32))) SL) shapeCasts_S512x16_S512x16x1) (broadcastInDim S512x16x1 ![0, 1, 2] bcast_S1x1x1_S512x16x1_0_1_2 (broadcastInDim S1x1x1 ![2] bcast_S1_S1x1x1_2 (constantI S1 32 16383#32))))) (constantI S_ 1 1#1) reducesTo_S512x16x1_S512x16_d2 h_S_)
      (Host.gather gather_S512x16384_S512x16x1_S512x16_n_1_0_0_1_2_11 x (shapeCast S512x16x1 (select (cmpi .slt SL (broadcastInDim S512x16 ![] bcast_S_S512x16 (constantI S_ 32 0#32))) (addi SL (broadcastInDim S512x16 ![] bcast_S_S512x16 (constantI S_ 32 16384#32))) SL) shapeCasts_S512x16_S512x16x1))
      (broadcastInDim S512x16 ![] bcast_S_S512x16 (constant S_ .f32 0x7FC00000#32)) (ix2 i j) = x (ix2 i (σ i j)) := by
  have hint : ∀ k : Fin 16384, (BitVec.ofNat 32 k.val).toInt = k.val := fun k => by
    have := k.isLt
    rw [BitVec.toInt_ofNat']; simp only [Int.bmod]; omega
  have hneg : select (cmpi .slt SL (broadcastInDim S512x16 ![] bcast_S_S512x16 (constantI S_ 32 0#32))) (addi SL (broadcastInDim S512x16 ![] bcast_S_S512x16 (constantI S_ 32 16384#32))) SL = SL := by
    have e : ∀ (i : Fin 512) (j : Fin 16) (b : BitVec 32), Scalar.select (IntOp.cmpi .slt (SL (ix2 i j)) 0#32) b (SL (ix2 i j)) = SL (ix2 i j) := fun i j b => by
      have : IntOp.cmpi .slt (SL (ix2 i j)) 0#32 = 0#1 := by
        rw [h]
        show BitVec.ofBool (BitVec.slt _ _) = _
        rw [BitVec.slt_eq_decide, hint, decide_eq_false (by simp)]
        rfl
      rw [this]; rfl
    funext y
    rw [eq_ix2 y]
    exact e _ _ _
  rw [hneg]
  have hcast : ∀ (i : Fin 512) (j : Fin 16) (u : Fin 1), shapeCast S512x16x1 SL shapeCasts_S512x16_S512x16x1 (ix3 i j u) = SL (ix2 i j) :=
    fun i j u => shapeCast_apply SL _ _ _ (by
      have hu : u.val = 0 := by omega
      rw [Shape.rowMajor_val_two, Shape.rowMajor_val_three]
      show i.val * 16 + j.val = (i.val * 16 + j.val) * 1 + u.val
      omega)
  have hmask : Host.reduce IntOp.andi (andi (cmpi .sge (shapeCast S512x16x1 SL shapeCasts_S512x16_S512x16x1) (broadcastInDim S512x16x1 ![] bcast_S_S512x16x1 (constantI S_ 32 0#32))) (cmpi .sle (shapeCast S512x16x1 SL shapeCasts_S512x16_S512x16x1) (broadcastInDim S512x16x1 ![0, 1, 2] bcast_S1x1x1_S512x16x1_0_1_2 (broadcastInDim S1x1x1 ![2] bcast_S1_S1x1x1_2 (constantI S1 32 16383#32))))) (constantI S_ 1 1#1) reducesTo_S512x16x1_S512x16_d2 h_S_ (ix2 i j) = 1#1 := by
    rw [Host.reduce_eq_fold]
    refine fold_andi_one _ _ fun y _ => ?_
    rw [eq_ix3 y]
    have e : ∀ (i : Fin 512) (j : Fin 16) (u : Fin 1),
        IntOp.andi (IntOp.cmpi .sge (shapeCast S512x16x1 SL shapeCasts_S512x16_S512x16x1 (ix3 i j u)) 0#32)
          (IntOp.cmpi .sle (shapeCast S512x16x1 SL shapeCasts_S512x16_S512x16x1 (ix3 i j u)) 16383#32) = 1#1 := fun i j u => by
      rw [hcast, h]
      have := (σ i j).isLt
      show IntOp.andi (BitVec.ofBool (BitVec.sle _ _)) (BitVec.ofBool (BitVec.sle _ _)) = _
      rw [BitVec.sle_eq_decide, BitVec.sle_eq_decide, hint, decide_eq_true (by simp), decide_eq_true (by
        show ((σ i j).val : Int) ≤ 16383
        omega)]
      rfl
    exact e _ _ _
  show Scalar.select (Host.reduce IntOp.andi _ _ _ _ (ix2 i j)) (Host.gather _ x _ (ix2 i j)) _ = _
  rw [hmask, gather_apply]
  refine congrArg (fun k => x (ix2 i k)) (Fin.ext ?_)
  show min (shapeCast S512x16x1 SL shapeCasts_S512x16_S512x16x1 (ix3 i j 0)).toInt.toNat 16383 = (σ i j).val
  rw [hcast, h, hint]
  have := (σ i j).isLt
  omega

end Cert.ReferenceIdeal.Top

end

end
-- ==== Proof.Algebra.lean ====
/- The kernel's result is the reference's: at every row and position both say, for every threshold, whether more than
   that many entries of the whole row are at least it. -/
module

public import proofs.«01_k».proof.Defs
public import proofs.«01_k».proof.Proof.LaunchIdeal
public import proofs.«01_k».proof.Proof.Reference
public import Idealize.ShloMosaic.Lib.Layout
public import Idealize.ShloMosaic.Lib.Pipeline.Value

@[expose] public section

noncomputable section

namespace Cert.Proof

open Cert.TopK Idealize.ShloMosaic Idealize.ShloMosaic.ValueIdx Idealize.SL.Sem

/-- A device's block of the whole array holds, at column `k` of a row, the row's entry `4096` columns further for each
    device before it. -/
theorem ent_block (v : FVec Ideal (Sh 16384) .f32) (c : Fin 4) (r : Fin 512) (k : Nat) (hk : k < 4096) :
    ent (n := 4096) (Layout.block ⟨2, ![512, 4096]⟩ ⟨2, ![512, 16384]⟩ 1 4 c v) r k = ent v r (4096 * c.val + k) := by
  have hc := c.isLt
  rw [ent_lt _ _ hk, ent_lt v r (show 4096 * c.val + k < 16384 by omega), Layout.block_apply]
  refine congrArg v (funext fun b => Fin.ext ?_)
  rw [Layout.Tiles.idx_val]
  match b with
  | ⟨0, _⟩ => rfl
  | ⟨1, _⟩ =>
    show c.val * 4096 + k = 4096 * c.val + k
    omega

/-- The kernel's result on blocks of `v`: position `j` of a row is at least a threshold exactly when more than `j` entries
    of the whole row are. -/
theorem le_kernel (m : (ℓ : Loc Cert.KernelIdeal.nD Cert.KernelIdeal.τ Cert.KernelIdeal.sig) → Buf (Elt Ideal) ℓ)
    (v : FVec Ideal (Sh 16384) .f32)
    (h : ∀ c : Dev Cert.KernelIdeal.nD, m ((c.tc : Thread Cert.KernelIdeal.nD Cert.KernelIdeal.τ).loc Cert.KernelIdeal.main_arg0)
      = Layout.block ⟨2, ![512, 4096]⟩ ⟨2, ![512, 16384]⟩ 1 4 c v)
    (t : EReal) (r : Fin 512) (j : Nat) (hj : j < 16) :
    t ≤ ent (n := 16) (Cert.KernelIdeal.Exchange.outAt (F := Ideal) m) r j ↔ j < cnt t (ent v r) 16384 := by
  refine (le_final (fun c => Cert.KernelIdeal.Exchange.stored (F := Ideal) m c) t r
    (fun c => ∑ l ∈ Finset.range 4096, hit t (ent v r) (4096 * c + l)) (fun c i hi => ?_) hj).trans
    (by rw [show cnt t (ent v r) 16384 = _ from cnt_blocks t _ 4096 4])
  have e : shapeCast (Sh 16) (Cert.KernelIdeal.Exchange.stored (F := Ideal) m c) (by decide)
      = Cert.KernelIdeal.Exchange.topAt (F := Ideal) m c := by
    unfold Cert.KernelIdeal.Exchange.stored
    rw [shapeCast_self]
    exact ent_slot _ _ _
  rw [e]
  unfold Cert.KernelIdeal.Exchange.topAt
  rw [le_local _ t r hi]
  have hx : Cert.KernelIdeal.Gen.k0_pay1 (F := Ideal) (Cert.KernelIdeal.Exchange.xstg m c)
      = Layout.block ⟨2, ![512, 4096]⟩ ⟨2, ![512, 16384]⟩ 1 4 c v :=
    (shapeCast_self _ _).trans ((Cert.KernelIdeal.Exchange.xstg_eq m c).trans (h c))
  have hs : cnt t (ent (Cert.KernelIdeal.Gen.k0_pay1 (F := Ideal) (Cert.KernelIdeal.Exchange.xstg m c)) r) 4096
      = ∑ l ∈ Finset.range 4096, hit t (ent v r) (4096 * c.val + l) := by
    refine Finset.sum_congr rfl fun l hl => ?_
    have e := (congrArg (fun X : FVec Ideal (Sh 4096) .f32 => ent X r l) hx).trans (ent_block v c r l (Finset.mem_range.1 hl))
    unfold hit
    exact if_congr (by rw [show ent (Cert.KernelIdeal.Gen.k0_pay1 (F := Ideal) (Cert.KernelIdeal.Exchange.xstg m c)) r l = _ from e]) rfl rfl
  rw [hs]

/-- Both programs leave the same array: the sixteen greatest entries of each row, in descending order. -/
theorem algebraic : Cert.algebraic_KernelIdeal_ReferenceIdeal := fun m g m' g' _ h => by
  refine ⟨Cert.KernelIdeal.Exchange.outAt (F := Ideal) m,
    (θ_run Cert.KernelIdeal.defs _ _).mono (fun _ h => h.1) (Cert.KernelIdeal.Exchange.run_value (F := Ideal) m g),
    (θ_run Cert.ReferenceIdeal.defs _ _).mono (fun r hr => ⟨(hr 0).1.trans ?_, (hr 0).2⟩)
      (Cert.ReferenceIdeal.Value.run (F := Ideal) m' g')⟩
  set v : FVec Ideal (Sh 16384) .f32 :=
    m' (((0 : Dev Cert.ReferenceIdeal.nD).tc : Thread Cert.ReferenceIdeal.nD Cert.ReferenceIdeal.τ).loc Cert.ReferenceIdeal.main_arg0) with hv
  have key : ∀ (r : Fin 512) (j : Fin 16), v (ix2 r (Cert.ReferenceIdeal.Top.col v r ⟨j.val, by omega⟩))
      = (Cert.KernelIdeal.Exchange.outAt (F := Ideal) m : FVec Ideal (Sh 16) .f32) (ix2 r j) := fun r j =>
    eq_of_thresholds fun t => (Cert.ReferenceIdeal.Top.le_sorted v r t ⟨j.val, by omega⟩).trans
      ((le_kernel m v h t r j.val j.isLt).symm.trans (by rw [ent_lt _ _ j.isLt]))
  funext y
  rw [eq_ix2 y]
  refine (Cert.ReferenceIdeal.Top.take_value v _ (fun r j => Cert.ReferenceIdeal.Top.col v r ⟨j.val, by omega⟩) (fun r j => ?_) _ _).trans (key _ _)
  exact (slice2_axis1_apply 0 _ _ r j ⟨j.val, by omega⟩ (by simp)).trans (Cert.ReferenceIdeal.Top.sort_cols v r _)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.LaunchIdeal
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The printed kernel terminates with its argument unchanged and every counter at zero. -/
theorem frame_kernel : Cert.quiescent_Kernel := fun m g _ =>
  (θ_run Cert.Kernel.defs _ _).mono (fun _ h => ⟨fun c => (h.1 c).2, h.2⟩) (Cert.Kernel.Exchange.run_value (F := Bits) m g)

/-- So does the kernel over the extended reals. -/
theorem frame_kernelIdeal : Cert.quiescent_KernelIdeal := fun m g _ =>
  (θ_run Cert.KernelIdeal.defs _ _).mono (fun _ h => ⟨fun c => (h.1 c).2, h.2⟩) (Cert.KernelIdeal.Exchange.run_value (F := Ideal) m g)

/-- The reference is a straight line of operations that touches no semaphore. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
